-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_a_greatest_lse [hPre_a_greatest_lse : Cert.Pre_a_greatest_lse.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_a_greatest_lse.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_a_greatest_lse [hPre_a_greatest_lse : Cert.Pre_a_greatest_lse.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_a_greatest_lse.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Kernel2Ideal_pre_a_greatest_lse [hKernel2Ideal : Cert.Kernel2Ideal.Facts] [hPre_a_greatest_lse : Cert.Pre_a_greatest_lse.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_a_greatest_lse m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Reference2Ideal_pre_a_greatest_lse [hReference2Ideal : Cert.Reference2Ideal.Facts] [hPre_a_greatest_lse : Cert.Pre_a_greatest_lse.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_a_greatest_lse m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def preserves_Kernel_KernelIdeal : Prop :=
  True

def preserves_Kernel2_Kernel2Ideal : Prop :=
  True

def algebraic_Kernel2Ideal_Reference2Ideal_pre_a_greatest_lse [hKernel2Ideal : Cert.Kernel2Ideal.Facts] [hReference2Ideal : Cert.Reference2Ideal.Facts] [hPre_a_greatest_lse : Cert.Pre_a_greatest_lse.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_a_greatest_lse m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)) →
    ∃ (v0 : (c : Dev Cert.Kernel2Ideal.nD) → Buf (Elt Ideal) ((c.tc : Thread Cert.Kernel2Ideal.nD Cert.Kernel2Ideal.τ).loc Cert.Kernel2Ideal.main_v43)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v43) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v71) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v27_5)) (v1 : (c : Dev Cert.Kernel3Ideal.nD) → Buf (Elt Ideal) ((c.tc : Thread Cert.Kernel3Ideal.nD Cert.Kernel3Ideal.τ).loc Cert.Kernel3Ideal.main_v27_8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v27_5) = v0 c
          ∧ r.2.mem ((c.tc : Thread Cert.Kernel3Ideal.nD Cert.Kernel3Ideal.τ).loc Cert.Kernel3Ideal.main_v27_8) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_v22) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_a_greatest_lse : Cert.Pre_a_greatest_lse.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Kernel2Ideal_pre_a_greatest_lse (hKernel2Ideal := hKernel2Ideal) (hPre_a_greatest_lse := hPre_a_greatest_lse)
    ∧ quiescent_Reference2Ideal (hReference2Ideal := hReference2Ideal)
    ∧ quiescent_Reference2Ideal_pre_a_greatest_lse (hReference2Ideal := hReference2Ideal) (hPre_a_greatest_lse := hPre_a_greatest_lse)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ preserves_Kernel2_Kernel2Ideal
    ∧ algebraic_Kernel2Ideal_Reference2Ideal_pre_a_greatest_lse (hKernel2Ideal := hKernel2Ideal) (hReference2Ideal := hReference2Ideal) (hPre_a_greatest_lse := hPre_a_greatest_lse)
    ∧ preserves_Kernel3_Kernel3Ideal
    ∧ algebraic_Kernel3Ideal_Reference3Ideal (hKernel3Ideal := hKernel3Ideal) (hReference3Ideal := hReference3Ideal)
-- ==== Pre_a_greatest_lse.lean ====
abbrev S2x8192x1024 : Shape := ⟨3, ![2, 8192, 1024]⟩
abbrev S2x8192x512 : Shape := ⟨3, ![2, 8192, 512]⟩
abbrev S2x8192x8x64 : Shape := ⟨4, ![2, 8192, 8, 64]⟩
abbrev S2x8x8192 : Shape := ⟨3, ![2, 8, 8192]⟩
abbrev S512 : Shape := ⟨1, ![512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩

class Facts : Prop where
  bcast_S_S2x8x8192 : S_.BroadcastsInDim S2x8x8192 (![] : Fin 0 → Fin S2x8x8192.rank)

variable [Facts]

def fn {F : FTy → Type} [FloatOps F] (main_arg0 : FVec F S2x8192x1024 .f32) (main_arg1 : FVec F S2x8192x512 .f32) (main_arg2 : FVec F S2x8192x8x64 .f32) (main_arg3 : FVec F S2x8192x8x64 .f32) (main_arg4 : FVec F S2x8192x8x64 .f32) (main_arg5 : FVec F S2x8x8192 .f32) (main_arg6 : FVec F S2x8x8192 .f32) (main_arg7 : FVec F S2x8x8192 .f32) (main_arg8 : FVec F S512 .f32) (main_arg9 : FVec F S1024x1024 .f32) (main_arg10 : FVec F S1024 .f32) (main_arg11 : FVec F S1024x4096 .f32) (main_arg12 : FVec F S4096x1024 .f32) (main_arg13 : FVec F S1024 .f32) : IVec S2x8x8192 1 :=
  let main_v0 : FVec F S2x8x8192 .f32 := maximumf main_arg5 main_arg6
  let main_v1 : FVec F S2x8x8192 .f32 := maximumf main_v0 main_arg7
  let main_cst : FVec F S_ .f32 := constant S_ .f32 0xFF800000#32
  let main_v2 : FVec F S2x8x8192 .f32 := broadcastInDim S2x8x8192 ![] bcast_S_S2x8x8192 main_cst
  let main_v3 : IVec S2x8x8192 1 := cmpf .ogt main_v1 main_v2
  let main_cst_0 : FVec F S_ .f32 := constant S_ .f32 0x7F800000#32
  let main_v4 : FVec F S2x8x8192 .f32 := broadcastInDim S2x8x8192 ![] bcast_S_S2x8x8192 main_cst_0
  let main_v5 : IVec S2x8x8192 1 := cmpf .olt main_v1 main_v4
  let main_v6 : IVec S2x8x8192 1 := andi main_v3 main_v5
  main_v6
-- ==== Kernel.lean ====
abbrev S2x1x1x8192x512 : Shape := ⟨5, ![2, 1, 1, 8192, 512]⟩
abbrev S3x3x8x128x256 : Shape := ⟨5, ![3, 3, 8, 128, 256]⟩
abbrev S2x1x4x8192x128 : Shape := ⟨5, ![2, 1, 4, 8192, 128]⟩
abbrev S1x1x1x2048x512 : Shape := ⟨5, ![1, 1, 1, 2048, 512]⟩
abbrev S1x1x1x64x512 : Shape := ⟨5, ![1, 1, 1, 64, 512]⟩
abbrev S1x3x8x128x256 : Shape := ⟨5, ![1, 3, 8, 128, 256]⟩
abbrev S1x1x4x2048x128 : Shape := ⟨5, ![1, 1, 4, 2048, 128]⟩
abbrev S1x2176x512 : Shape := ⟨3, ![1, 2176, 512]⟩
abbrev S64x512 : Shape := ⟨2, ![64, 512]⟩
abbrev S1x64x512 : Shape := ⟨3, ![1, 64, 512]⟩
abbrev S2048x512 : Shape := ⟨2, ![2048, 512]⟩
abbrev S1x2048x512 : Shape := ⟨3, ![1, 2048, 512]⟩
abbrev S128x128 : Shape := ⟨2, ![128, 128]⟩
abbrev S1x1x1x128x512 : Shape := ⟨5, ![1, 1, 1, 128, 512]⟩
abbrev S128x512 : Shape := ⟨2, ![128, 512]⟩
abbrev S1x256x512 : Shape := ⟨3, ![1, 256, 512]⟩
abbrev S256x512 : Shape := ⟨2, ![256, 512]⟩
abbrev S256x128 : Shape := ⟨2, ![256, 128]⟩
abbrev S256x256 : Shape := ⟨2, ![256, 256]⟩
abbrev S1x1x2x128x256 : Shape := ⟨5, ![1, 1, 2, 128, 256]⟩
abbrev S2x128x256 : Shape := ⟨3, ![2, 128, 256]⟩
abbrev S256 : Shape := ⟨1, ![256]⟩
abbrev S256x1 : Shape := ⟨2, ![256, 1]⟩
abbrev S128x1 : Shape := ⟨2, ![128, 1]⟩
abbrev S1x1x1x128x128 : Shape := ⟨5, ![1, 1, 1, 128, 128]⟩

abbrev nBuf : Space → Nat
  | .hbm => 6
  | .vmem => 21
  | .smem => 0
  | _ => 0

abbrev bufTy : (tb : Table) → Fin (tcTables nBuf tb) → BufTy
  | .hbm, ⟨0, _⟩ => ⟨S2x1x1x8192x512, .bf16⟩
  | .hbm, ⟨1, _⟩ => ⟨S2x1x1x8192x512, .bf16⟩
  | .hbm, ⟨2, _⟩ => ⟨S2x1x1x8192x512, .bf16⟩
  | .hbm, ⟨3, _⟩ => ⟨S3x3x8x128x256, .f32⟩
  | .hbm, ⟨4, _⟩ => ⟨S2x1x4x8192x128, .f32⟩
  | .hbm, ⟨5, _⟩ => ⟨S2x1x4x8192x128, .f32⟩
  | .local _ .vmem, ⟨0, _⟩ => ⟨S1x1x1x2048x512, .bf16⟩
  | .local _ .vmem, ⟨1, _⟩ => ⟨S1x1x1x2048x512, .bf16⟩
  | .local _ .vmem, ⟨2, _⟩ => ⟨S1x1x1x64x512, .bf16⟩
  | .local _ .vmem, ⟨3, _⟩ => ⟨S1x1x1x64x512, .bf16⟩
  | .local _ .vmem, ⟨4, _⟩ => ⟨S1x1x1x2048x512, .bf16⟩
  | .local _ .vmem, ⟨5, _⟩ => ⟨S1x1x1x2048x512, .bf16⟩
  | .local _ .vmem, ⟨6, _⟩ => ⟨S1x1x1x64x512, .bf16⟩
  | .local _ .vmem, ⟨7, _⟩ => ⟨S1x1x1x64x512, .bf16⟩
  | .local _ .vmem, ⟨8, _⟩ => ⟨S1x1x1x64x512, .bf16⟩
  | .local _ .vmem, ⟨9, _⟩ => ⟨S1x1x1x64x512, .bf16⟩
  | .local _ .vmem, ⟨10, _⟩ => ⟨S1x1x1x2048x512, .bf16⟩
  | .local _ .vmem, ⟨11, _⟩ => ⟨S1x1x1x2048x512, .bf16⟩
  | .local _ .vmem, ⟨12, _⟩ => ⟨S1x1x1x64x512, .bf16⟩
  | .local _ .vmem, ⟨13, _⟩ => ⟨S1x1x1x64x512, .bf16⟩
  | .local _ .vmem, ⟨14, _⟩ => ⟨S1x3x8x128x256, .f32⟩
  | .local _ .vmem, ⟨15, _⟩ => ⟨S1x1x4x2048x128, .f32⟩
  | .local _ .vmem, ⟨16, _⟩ => ⟨S1x1x4x2048x128, .f32⟩
  | .local _ .vmem, ⟨17, _⟩ => ⟨S1x1x4x2048x128, .f32⟩
  | .local _ .vmem, ⟨18, _⟩ => ⟨S1x1x4x2048x128, .f32⟩
  | .local _ .vmem, ⟨19, _⟩ => ⟨S1x2176x512, .bf16⟩
  | .local _ .vmem, ⟨20, _⟩ => ⟨S1x2176x512, .bf16⟩
  | _, _ => ⟨S2x1x1x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨3, ![2, 1, 4], ![false, false, false]⟩

def k0_mult1 (i : grid0.Coords) : BitVec 32 :=
  let c7936_i32 : BitVec 32 := 7936#32
  let c0_i32_54 : BitVec 32 := 0#32
  let arg2 : BitVec 32 := BitVec.ofNat 32 (i 2).val
  let c16_i32 : BitVec 32 := 16#32
  let v37 : BitVec 32 := Scalar.muli arg2 c16_i32
  let c0_i32 : BitVec 32 := 0#32
  let v38 : BitVec 32 := Scalar.addi v37 c0_i32
  let c128_i32 : BitVec 32 := 128#32
  let v43 : BitVec 32 := Scalar.muli v38 c128_i32
  let c64_i32_53 : BitVec 32 := 64#32
  let v44 : BitVec 32 := Scalar.subi v43 c64_i32_53
  let v45 : BitVec 32 := Scalar.maxsi c0_i32_54 v44
  let v46 : BitVec 32 := Scalar.minsi c7936_i32 v45
  let c2048_i32 : BitVec 32 := 2048#32
  let v30 : BitVec 32 := Scalar.muli arg2 c2048_i32
  let c64_i32 : BitVec 32 := 64#32
  let v31 : BitVec 32 := Scalar.subi v30 c64_i32
  let v47 : BitVec 32 := Scalar.subi v46 v31
  v47
def k0_off1 (i : grid0.Coords) (c0_i32 : BitVec 32) : Fin 3 → Nat :=
  let c0_55 : Index := 0#32
  let c7936_i32 : BitVec 32 := 7936#32
  let c0_i32_54 : BitVec 32 := 0#32
  let arg2 : BitVec 32 := BitVec.ofNat 32 (i 2).val
  let c16_i32 : BitVec 32 := 16#32
  let v37 : BitVec 32 := Scalar.muli arg2 c16_i32
  let v38 : BitVec 32 := Scalar.addi v37 c0_i32
  let c128_i32 : BitVec 32 := 128#32
  let v43 : BitVec 32 := Scalar.muli v38 c128_i32
  let c64_i32_53 : BitVec 32 := 64#32
  let v44 : BitVec 32 := Scalar.subi v43 c64_i32_53
  let v45 : BitVec 32 := Scalar.maxsi c0_i32_54 v44
  let v46 : BitVec 32 := Scalar.minsi c7936_i32 v45
  let c2048_i32 : BitVec 32 := 2048#32
  let v30 : BitVec 32 := Scalar.muli arg2 c2048_i32
  let c64_i32 : BitVec 32 := 64#32
  let v31 : BitVec 32 := Scalar.subi v30 c64_i32
  let v47 : BitVec 32 := Scalar.subi v46 v31
  let v48 : BitVec 32 := v47
  let v49 : Index := Scalar.indexCast v48
  let c0_56 : Index := 0#32
  ![0, v49.toNat, 0]
def k0_off2 (i : grid0.Coords) (c0_i32 : BitVec 32) : Fin 5 → Nat :=
  let c0_60 : Index := 0#32
  let arg2 : BitVec 32 := BitVec.ofNat 32 (i 2).val
  let c16_i32 : BitVec 32 := 16#32
  let v37 : BitVec 32 := Scalar.muli arg2 c16_i32
  let v38 : BitVec 32 := Scalar.addi v37 c0_i32
  let c0_i32_51 : BitVec 32 := 0#32
  let v39 : BitVec 1 := Scalar.cmpi .eq v38 c0_i32_51
  let c1_i32 : BitVec 32 := 1#32
  let c63_i32 : BitVec 32 := 63#32
  let v40 : BitVec 1 := Scalar.cmpi .eq v38 c63_i32
  let c2_i32 : BitVec 32 := 2#32
  let c0_i32_52 : BitVec 32 := 0#32
  let v41 : BitVec 32 := Scalar.select v40 c2_i32 c0_i32_52
  let v42 : BitVec 32 := Scalar.select v39 c1_i32 v41
  let v63 : Index := Scalar.indexCast v42
  let c0_61 : Index := 0#32
  let c0_62 : Index := 0#32
  let c0_63 : Index := 0#32
  ![0, v63.toNat, 0, 0, 0]
def k0_off3 (i : grid0.Coords) (c0_i32 : BitVec 32) : Fin 5 → Nat :=
  let c0_81 : Index := 0#32
  let arg2 : BitVec 32 := BitVec.ofNat 32 (i 2).val
  let c16_i32 : BitVec 32 := 16#32
  let v37 : BitVec 32 := Scalar.muli arg2 c16_i32
  let v38 : BitVec 32 := Scalar.addi v37 c0_i32
  let c0_i32_51 : BitVec 32 := 0#32
  let v39 : BitVec 1 := Scalar.cmpi .eq v38 c0_i32_51
  let c1_i32 : BitVec 32 := 1#32
  let c63_i32 : BitVec 32 := 63#32
  let v40 : BitVec 1 := Scalar.cmpi .eq v38 c63_i32
  let c2_i32 : BitVec 32 := 2#32
  let c0_i32_52 : BitVec 32 := 0#32
  let v41 : BitVec 32 := Scalar.select v40 c2_i32 c0_i32_52
  let v42 : BitVec 32 := Scalar.select v39 c1_i32 v41
  let v115 : Index := Scalar.indexCast v42
  let c2 : Index := 2#32
  let c0_82 : Index := 0#32
  let c0_83 : Index := 0#32
  ![0, v115.toNat, 2, 0, 0]
def k0_off4 (i : grid0.Coords) (c0_i32 : BitVec 32) : Fin 5 → Nat :=
  let c0_100 : Index := 0#32
  let arg2 : BitVec 32 := BitVec.ofNat 32 (i 2).val
  let c16_i32 : BitVec 32 := 16#32
  let v37 : BitVec 32 := Scalar.muli arg2 c16_i32
  let v38 : BitVec 32 := Scalar.addi v37 c0_i32
  let c0_i32_51 : BitVec 32 := 0#32
  let v39 : BitVec 1 := Scalar.cmpi .eq v38 c0_i32_51
  let c1_i32 : BitVec 32 := 1#32
  let c63_i32 : BitVec 32 := 63#32
  let v40 : BitVec 1 := Scalar.cmpi .eq v38 c63_i32
  let c2_i32 : BitVec 32 := 2#32
  let c0_i32_52 : BitVec 32 := 0#32
  let v41 : BitVec 32 := Scalar.select v40 c2_i32 c0_i32_52
  let v42 : BitVec 32 := Scalar.select v39 c1_i32 v41
  let v167 : Index := Scalar.indexCast v42
  let c4 : Index := 4#32
  let c0_101 : Index := 0#32
  let c0_102 : Index := 0#32
  ![0, v167.toNat, 4, 0, 0]
def k0_off5 (i : grid0.Coords) (c0_i32 : BitVec 32) : Fin 5 → Nat :=
  let c0_120 : Index := 0#32
  let arg2 : BitVec 32 := BitVec.ofNat 32 (i 2).val
  let c16_i32 : BitVec 32 := 16#32
  let v37 : BitVec 32 := Scalar.muli arg2 c16_i32
  let v38 : BitVec 32 := Scalar.addi v37 c0_i32
  let c0_i32_51 : BitVec 32 := 0#32
  let v39 : BitVec 1 := Scalar.cmpi .eq v38 c0_i32_51
  let c1_i32 : BitVec 32 := 1#32
  let c63_i32 : BitVec 32 := 63#32
  let v40 : BitVec 1 := Scalar.cmpi .eq v38 c63_i32
  let c2_i32 : BitVec 32 := 2#32
  let c0_i32_52 : BitVec 32 := 0#32
  let v41 : BitVec 32 := Scalar.select v40 c2_i32 c0_i32_52
  let v42 : BitVec 32 := Scalar.select v39 c1_i32 v41
  let v219 : Index := Scalar.indexCast v42
  let c6 : Index := 6#32
  let c0_121 : Index := 0#32
  let c0_122 : Index := 0#32
  ![0, v219.toNat, 6, 0, 0]
def k0_mult2 (i : grid0.Coords) : BitVec 32 :=
  let c7936_i32_151 : BitVec 32 := 7936#32
  let c0_i32_150 : BitVec 32 := 0#32
  let arg2 : BitVec 32 := BitVec.ofNat 32 (i 2).val
  let c16_i32_141 : BitVec 32 := 16#32
  let v265 : BitVec 32 := Scalar.muli arg2 c16_i32_141
  let c1_i32_142 : BitVec 32 := 1#32
  let v266 : BitVec 32 := Scalar.addi v265 c1_i32_142
  let c128_i32_148 : BitVec 32 := 128#32
  let v271 : BitVec 32 := Scalar.muli v266 c128_i32_148
  let c64_i32_149 : BitVec 32 := 64#32
  let v272 : BitVec 32 := Scalar.subi v271 c64_i32_149
  let v273 : BitVec 32 := Scalar.maxsi c0_i32_150 v272
  let v274 : BitVec 32 := Scalar.minsi c7936_i32_151 v273
  let c2048_i32 : BitVec 32 := 2048#32
  let v30 : BitVec 32 := Scalar.muli arg2 c2048_i32
  let c64_i32 : BitVec 32 := 64#32
  let v31 : BitVec 32 := Scalar.subi v30 c64_i32
  let v275 : BitVec 32 := Scalar.subi v274 v31
  v275
def k0_mult3 (i : grid0.Coords) : BitVec 32 :=
  let c7936_i32_254 : BitVec 32 := 7936#32
  let c0_i32_253 : BitVec 32 := 0#32
  let arg2 : BitVec 32 := BitVec.ofNat 32 (i 2).val
  let c16_i32_244 : BitVec 32 := 16#32
  let v493 : BitVec 32 := Scalar.muli arg2 c16_i32_244
  let c2_i32_245 : BitVec 32 := 2#32
  let v494 : BitVec 32 := Scalar.addi v493 c2_i32_245
  let c128_i32_251 : BitVec 32 := 128#32
  let v499 : BitVec 32 := Scalar.muli v494 c128_i32_251
  let c64_i32_252 : BitVec 32 := 64#32
  let v500 : BitVec 32 := Scalar.subi v499 c64_i32_252
  let v501 : BitVec 32 := Scalar.maxsi c0_i32_253 v500
  let v502 : BitVec 32 := Scalar.minsi c7936_i32_254 v501
  let c2048_i32 : BitVec 32 := 2048#32
  let v30 : BitVec 32 := Scalar.muli arg2 c2048_i32
  let c64_i32 : BitVec 32 := 64#32
  let v31 : BitVec 32 := Scalar.subi v30 c64_i32
  let v503 : BitVec 32 := Scalar.subi v502 v31
  v503
def k0_mult4 (i : grid0.Coords) : BitVec 32 :=
  let c7936_i32_356 : BitVec 32 := 7936#32
  let c0_i32_355 : BitVec 32 := 0#32
  let arg2 : BitVec 32 := BitVec.ofNat 32 (i 2).val
  let c16_i32_347 : BitVec 32 := 16#32
  let v721 : BitVec 32 := Scalar.muli arg2 c16_i32_347
  let c3_i32 : BitVec 32 := 3#32
  let v722 : BitVec 32 := Scalar.addi v721 c3_i32
  let c128_i32_353 : BitVec 32 := 128#32
  let v727 : BitVec 32 := Scalar.muli v722 c128_i32_353
  let c64_i32_354 : BitVec 32 := 64#32
  let v728 : BitVec 32 := Scalar.subi v727 c64_i32_354
  let v729 : BitVec 32 := Scalar.maxsi c0_i32_355 v728
  let v730 : BitVec 32 := Scalar.minsi c7936_i32_356 v729
  let c2048_i32 : BitVec 32 := 2048#32
  let v30 : BitVec 32 := Scalar.muli arg2 c2048_i32
  let c64_i32 : BitVec 32 := 64#32
  let v31 : BitVec 32 := Scalar.subi v30 c64_i32
  let v731 : BitVec 32 := Scalar.subi v730 v31
  v731
def k0_mult5 (i : grid0.Coords) : BitVec 32 :=
  let c7936_i32_458 : BitVec 32 := 7936#32
  let c0_i32_457 : BitVec 32 := 0#32
  let arg2 : BitVec 32 := BitVec.ofNat 32 (i 2).val
  let c16_i32_449 : BitVec 32 := 16#32
  let v949 : BitVec 32 := Scalar.muli arg2 c16_i32_449
  let c4_i32 : BitVec 32 := 4#32
  let v950 : BitVec 32 := Scalar.addi v949 c4_i32
  let c128_i32_455 : BitVec 32 := 128#32
  let v955 : BitVec 32 := Scalar.muli v950 c128_i32_455
  let c64_i32_456 : BitVec 32 := 64#32
  let v956 : BitVec 32 := Scalar.subi v955 c64_i32_456
  let v957 : BitVec 32 := Scalar.maxsi c0_i32_457 v956
  let v958 : BitVec 32 := Scalar.minsi c7936_i32_458 v957
  let c2048_i32 : BitVec 32 := 2048#32
  let v30 : BitVec 32 := Scalar.muli arg2 c2048_i32
  let c64_i32 : BitVec 32 := 64#32
  let v31 : BitVec 32 := Scalar.subi v30 c64_i32
  let v959 : BitVec 32 := Scalar.subi v958 v31
  v959
def k0_mult6 (i : grid0.Coords) : BitVec 32 :=
  let c7936_i32_560 : BitVec 32 := 7936#32
  let c0_i32_559 : BitVec 32 := 0#32
  let arg2 : BitVec 32 := BitVec.ofNat 32 (i 2).val
  let c16_i32_551 : BitVec 32 := 16#32
  let v1177 : BitVec 32 := Scalar.muli arg2 c16_i32_551
  let c5_i32 : BitVec 32 := 5#32
  let v1178 : BitVec 32 := Scalar.addi v1177 c5_i32
  let c128_i32_557 : BitVec 32 := 128#32
  let v1183 : BitVec 32 := Scalar.muli v1178 c128_i32_557
  let c64_i32_558 : BitVec 32 := 64#32
  let v1184 : BitVec 32 := Scalar.subi v1183 c64_i32_558
  let v1185 : BitVec 32 := Scalar.maxsi c0_i32_559 v1184
  let v1186 : BitVec 32 := Scalar.minsi c7936_i32_560 v1185
  let c2048_i32 : BitVec 32 := 2048#32
  let v30 : BitVec 32 := Scalar.muli arg2 c2048_i32
  let c64_i32 : BitVec 32 := 64#32
  let v31 : BitVec 32 := Scalar.subi v30 c64_i32
  let v1187 : BitVec 32 := Scalar.subi v1186 v31
  v1187
def k0_mult7 (i : grid0.Coords) : BitVec 32 :=
  let c7936_i32_662 : BitVec 32 := 7936#32
  let c0_i32_661 : BitVec 32 := 0#32
  let arg2 : BitVec 32 := BitVec.ofNat 32 (i 2).val
  let c16_i32_653 : BitVec 32 := 16#32
  let v1405 : BitVec 32 := Scalar.muli arg2 c16_i32_653
  let c6_i32 : BitVec 32 := 6#32
  let v1406 : BitVec 32 := Scalar.addi v1405 c6_i32
  let c128_i32_659 : BitVec 32 := 128#32
  let v1411 : BitVec 32 := Scalar.muli v1406 c128_i32_659
  let c64_i32_660 : BitVec 32 := 64#32
  let v1412 : BitVec 32 := Scalar.subi v1411 c64_i32_660
  let v1413 : BitVec 32 := Scalar.maxsi c0_i32_661 v1412
  let v1414 : BitVec 32 := Scalar.minsi c7936_i32_662 v1413
  let c2048_i32 : BitVec 32 := 2048#32
  let v30 : BitVec 32 := Scalar.muli arg2 c2048_i32
  let c64_i32 : BitVec 32 := 64#32
  let v31 : BitVec 32 := Scalar.subi v30 c64_i32
  let v1415 : BitVec 32 := Scalar.subi v1414 v31
  v1415
def k0_mult8 (i : grid0.Coords) : BitVec 32 :=
  let c7936_i32_764 : BitVec 32 := 7936#32
  let c0_i32_763 : BitVec 32 := 0#32
  let arg2 : BitVec 32 := BitVec.ofNat 32 (i 2).val
  let c16_i32_755 : BitVec 32 := 16#32
  let v1633 : BitVec 32 := Scalar.muli arg2 c16_i32_755
  let c7_i32 : BitVec 32 := 7#32
  let v1634 : BitVec 32 := Scalar.addi v1633 c7_i32
  let c128_i32_761 : BitVec 32 := 128#32
  let v1639 : BitVec 32 := Scalar.muli v1634 c128_i32_761
  let c64_i32_762 : BitVec 32 := 64#32
  let v1640 : BitVec 32 := Scalar.subi v1639 c64_i32_762
  let v1641 : BitVec 32 := Scalar.maxsi c0_i32_763 v1640
  let v1642 : BitVec 32 := Scalar.minsi c7936_i32_764 v1641
  let c2048_i32 : BitVec 32 := 2048#32
  let v30 : BitVec 32 := Scalar.muli arg2 c2048_i32
  let c64_i32 : BitVec 32 := 64#32
  let v31 : BitVec 32 := Scalar.subi v30 c64_i32
  let v1643 : BitVec 32 := Scalar.subi v1642 v31
  v1643
def k0_mult9 (i : grid0.Coords) : BitVec 32 :=
  let c7936_i32_866 : BitVec 32 := 7936#32
  let c0_i32_865 : BitVec 32 := 0#32
  let arg2 : BitVec 32 := BitVec.ofNat 32 (i 2).val
  let c16_i32_857 : BitVec 32 := 16#32
  let v1861 : BitVec 32 := Scalar.muli arg2 c16_i32_857
  let c8_i32 : BitVec 32 := 8#32
  let v1862 : BitVec 32 := Scalar.addi v1861 c8_i32
  let c128_i32_863 : BitVec 32 := 128#32
  let v1867 : BitVec 32 := Scalar.muli v1862 c128_i32_863
  let c64_i32_864 : BitVec 32 := 64#32
  let v1868 : BitVec 32 := Scalar.subi v1867 c64_i32_864
  let v1869 : BitVec 32 := Scalar.maxsi c0_i32_865 v1868
  let v1870 : BitVec 32 := Scalar.minsi c7936_i32_866 v1869
  let c2048_i32 : BitVec 32 := 2048#32
  let v30 : BitVec 32 := Scalar.muli arg2 c2048_i32
  let c64_i32 : BitVec 32 := 64#32
  let v31 : BitVec 32 := Scalar.subi v30 c64_i32
  let v1871 : BitVec 32 := Scalar.subi v1870 v31
  v1871
def k0_mult10 (i : grid0.Coords) : BitVec 32 :=
  let c7936_i32_968 : BitVec 32 := 7936#32
  let c0_i32_967 : BitVec 32 := 0#32
  let arg2 : BitVec 32 := BitVec.ofNat 32 (i 2).val
  let c16_i32_959 : BitVec 32 := 16#32
  let v2089 : BitVec 32 := Scalar.muli arg2 c16_i32_959
  let c9_i32 : BitVec 32 := 9#32
  let v2090 : BitVec 32 := Scalar.addi v2089 c9_i32
  let c128_i32_965 : BitVec 32 := 128#32
  let v2095 : BitVec 32 := Scalar.muli v2090 c128_i32_965
  let c64_i32_966 : BitVec 32 := 64#32
  let v2096 : BitVec 32 := Scalar.subi v2095 c64_i32_966
  let v2097 : BitVec 32 := Scalar.maxsi c0_i32_967 v2096
  let v2098 : BitVec 32 := Scalar.minsi c7936_i32_968 v2097
  let c2048_i32 : BitVec 32 := 2048#32
  let v30 : BitVec 32 := Scalar.muli arg2 c2048_i32
  let c64_i32 : BitVec 32 := 64#32
  let v31 : BitVec 32 := Scalar.subi v30 c64_i32
  let v2099 : BitVec 32 := Scalar.subi v2098 v31
  v2099
def k0_mult11 (i : grid0.Coords) : BitVec 32 :=
  let c7936_i32_1070 : BitVec 32 := 7936#32
  let c0_i32_1069 : BitVec 32 := 0#32
  let arg2 : BitVec 32 := BitVec.ofNat 32 (i 2).val
  let c16_i32_1061 : BitVec 32 := 16#32
  let v2317 : BitVec 32 := Scalar.muli arg2 c16_i32_1061
  let c10_i32 : BitVec 32 := 10#32
  let v2318 : BitVec 32 := Scalar.addi v2317 c10_i32
  let c128_i32_1067 : BitVec 32 := 128#32
  let v2323 : BitVec 32 := Scalar.muli v2318 c128_i32_1067
  let c64_i32_1068 : BitVec 32 := 64#32
  let v2324 : BitVec 32 := Scalar.subi v2323 c64_i32_1068
  let v2325 : BitVec 32 := Scalar.maxsi c0_i32_1069 v2324
  let v2326 : BitVec 32 := Scalar.minsi c7936_i32_1070 v2325
  let c2048_i32 : BitVec 32 := 2048#32
  let v30 : BitVec 32 := Scalar.muli arg2 c2048_i32
  let c64_i32 : BitVec 32 := 64#32
  let v31 : BitVec 32 := Scalar.subi v30 c64_i32
  let v2327 : BitVec 32 := Scalar.subi v2326 v31
  v2327
def k0_mult12 (i : grid0.Coords) : BitVec 32 :=
  let c7936_i32_1172 : BitVec 32 := 7936#32
  let c0_i32_1171 : BitVec 32 := 0#32
  let arg2 : BitVec 32 := BitVec.ofNat 32 (i 2).val
  let c16_i32_1163 : BitVec 32 := 16#32
  let v2545 : BitVec 32 := Scalar.muli arg2 c16_i32_1163
  let c11_i32 : BitVec 32 := 11#32
  let v2546 : BitVec 32 := Scalar.addi v2545 c11_i32
  let c128_i32_1169 : BitVec 32 := 128#32
  let v2551 : BitVec 32 := Scalar.muli v2546 c128_i32_1169
  let c64_i32_1170 : BitVec 32 := 64#32
  let v2552 : BitVec 32 := Scalar.subi v2551 c64_i32_1170
  let v2553 : BitVec 32 := Scalar.maxsi c0_i32_1171 v2552
  let v2554 : BitVec 32 := Scalar.minsi c7936_i32_1172 v2553
  let c2048_i32 : BitVec 32 := 2048#32
  let v30 : BitVec 32 := Scalar.muli arg2 c2048_i32
  let c64_i32 : BitVec 32 := 64#32
  let v31 : BitVec 32 := Scalar.subi v30 c64_i32
  let v2555 : BitVec 32 := Scalar.subi v2554 v31
  v2555
def k0_mult13 (i : grid0.Coords) : BitVec 32 :=
  let c7936_i32_1274 : BitVec 32 := 7936#32
  let c0_i32_1273 : BitVec 32 := 0#32
  let arg2 : BitVec 32 := BitVec.ofNat 32 (i 2).val
  let c16_i32_1265 : BitVec 32 := 16#32
  let v2773 : BitVec 32 := Scalar.muli arg2 c16_i32_1265
  let c12_i32 : BitVec 32 := 12#32
  let v2774 : BitVec 32 := Scalar.addi v2773 c12_i32
  let c128_i32_1271 : BitVec 32 := 128#32
  let v2779 : BitVec 32 := Scalar.muli v2774 c128_i32_1271
  let c64_i32_1272 : BitVec 32 := 64#32
  let v2780 : BitVec 32 := Scalar.subi v2779 c64_i32_1272
  let v2781 : BitVec 32 := Scalar.maxsi c0_i32_1273 v2780
  let v2782 : BitVec 32 := Scalar.minsi c7936_i32_1274 v2781
  let c2048_i32 : BitVec 32 := 2048#32
  let v30 : BitVec 32 := Scalar.muli arg2 c2048_i32
  let c64_i32 : BitVec 32 := 64#32
  let v31 : BitVec 32 := Scalar.subi v30 c64_i32
  let v2783 : BitVec 32 := Scalar.subi v2782 v31
  v2783
def k0_mult14 (i : grid0.Coords) : BitVec 32 :=
  let c7936_i32_1376 : BitVec 32 := 7936#32
  let c0_i32_1375 : BitVec 32 := 0#32
  let arg2 : BitVec 32 := BitVec.ofNat 32 (i 2).val
  let c16_i32_1367 : BitVec 32 := 16#32
  let v3001 : BitVec 32 := Scalar.muli arg2 c16_i32_1367
  let c13_i32 : BitVec 32 := 13#32
  let v3002 : BitVec 32 := Scalar.addi v3001 c13_i32
  let c128_i32_1373 : BitVec 32 := 128#32
  let v3007 : BitVec 32 := Scalar.muli v3002 c128_i32_1373
  let c64_i32_1374 : BitVec 32 := 64#32
  let v3008 : BitVec 32 := Scalar.subi v3007 c64_i32_1374
  let v3009 : BitVec 32 := Scalar.maxsi c0_i32_1375 v3008
  let v3010 : BitVec 32 := Scalar.minsi c7936_i32_1376 v3009
  let c2048_i32 : BitVec 32 := 2048#32
  let v30 : BitVec 32 := Scalar.muli arg2 c2048_i32
  let c64_i32 : BitVec 32 := 64#32
  let v31 : BitVec 32 := Scalar.subi v30 c64_i32
  let v3011 : BitVec 32 := Scalar.subi v3010 v31
  v3011
def k0_mult15 (i : grid0.Coords) : BitVec 32 :=
  let c7936_i32_1478 : BitVec 32 := 7936#32
  let c0_i32_1477 : BitVec 32 := 0#32
  let arg2 : BitVec 32 := BitVec.ofNat 32 (i 2).val
  let c16_i32_1469 : BitVec 32 := 16#32
  let v3229 : BitVec 32 := Scalar.muli arg2 c16_i32_1469
  let c14_i32 : BitVec 32 := 14#32
  let v3230 : BitVec 32 := Scalar.addi v3229 c14_i32
  let c128_i32_1475 : BitVec 32 := 128#32
  let v3235 : BitVec 32 := Scalar.muli v3230 c128_i32_1475
  let c64_i32_1476 : BitVec 32 := 64#32
  let v3236 : BitVec 32 := Scalar.subi v3235 c64_i32_1476
  let v3237 : BitVec 32 := Scalar.maxsi c0_i32_1477 v3236
  let v3238 : BitVec 32 := Scalar.minsi c7936_i32_1478 v3237
  let c2048_i32 : BitVec 32 := 2048#32
  let v30 : BitVec 32 := Scalar.muli arg2 c2048_i32
  let c64_i32 : BitVec 32 := 64#32
  let v31 : BitVec 32 := Scalar.subi v30 c64_i32
  let v3239 : BitVec 32 := Scalar.subi v3238 v31
  v3239
def k0_mult16 (i : grid0.Coords) : BitVec 32 :=
  let c7936_i32_1580 : BitVec 32 := 7936#32
  let c0_i32_1579 : BitVec 32 := 0#32
  let arg2 : BitVec 32 := BitVec.ofNat 32 (i 2).val
  let c16_i32_1571 : BitVec 32 := 16#32
  let v3457 : BitVec 32 := Scalar.muli arg2 c16_i32_1571
  let c15_i32 : BitVec 32 := 15#32
  let v3458 : BitVec 32 := Scalar.addi v3457 c15_i32
  let c128_i32_1577 : BitVec 32 := 128#32
  let v3463 : BitVec 32 := Scalar.muli v3458 c128_i32_1577
  let c64_i32_1578 : BitVec 32 := 64#32
  let v3464 : BitVec 32 := Scalar.subi v3463 c64_i32_1578
  let v3465 : BitVec 32 := Scalar.maxsi c0_i32_1579 v3464
  let v3466 : BitVec 32 := Scalar.minsi c7936_i32_1580 v3465
  let c2048_i32 : BitVec 32 := 2048#32
  let v30 : BitVec 32 := Scalar.muli arg2 c2048_i32
  let c64_i32 : BitVec 32 := 64#32
  let v31 : BitVec 32 := Scalar.subi v30 c64_i32
  let v3467 : BitVec 32 := Scalar.subi v3466 v31
  v3467
def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, arg2.toNat, c0_i32_0.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg2 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![arg0.toNat, arg1.toNat, c0_i32_0.toNat, v2.toNat, c0_i32_1.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, arg2.toNat, c0_i32_0.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c32_i32 : BitVec 32 := 32#32
  let v1 : BitVec 32 := Scalar.muli v0 c32_i32
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![arg0.toNat, arg1.toNat, c0_i32.toNat, v2.toNat, c0_i32_0.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg2 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![arg0.toNat, arg1.toNat, c0_i32_0.toNat, v2.toNat, c0_i32_1.toNat]

def cc0_transform_5 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, arg2.toNat, c0_i32_0.toNat]

def cc0_transform_6 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c32_i32 : BitVec 32 := 32#32
  let v1 : BitVec 32 := Scalar.muli v0 c32_i32
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![arg0.toNat, arg1.toNat, c0_i32.toNat, v2.toNat, c0_i32_0.toNat]

def cc0_transform_7 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc0_transform_8 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, arg2.toNat, c0_i32_0.toNat]

def cc0_transform_9 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, arg2.toNat, c0_i32_0.toNat]

abbrev stage0_0 : Fin 2 → Memref sig .tc .vmem S1x1x1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x1x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x1x64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x1x64x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x1x64x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 1 → Memref sig .tc .vmem S1x3x8x128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x1x4x2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x4x2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== Kernel2.lean ====
abbrev S2x8192x1024 : Shape := ⟨3, ![2, 8192, 1024]⟩
abbrev S2x8192x512 : Shape := ⟨3, ![2, 8192, 512]⟩
abbrev S2x8192x8x64 : Shape := ⟨4, ![2, 8192, 8, 64]⟩
abbrev S2x8x8192 : Shape := ⟨3, ![2, 8, 8192]⟩
abbrev S512 : Shape := ⟨1, ![512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S2x8192x1x4x128 : Shape := ⟨5, ![2, 8192, 1, 4, 128]⟩
abbrev S2x1x4x8192x128 : Shape := ⟨5, ![2, 1, 4, 8192, 128]⟩
abbrev S2x2048x4x4x128 : Shape := ⟨5, ![2, 2048, 4, 4, 128]⟩
abbrev S2x4x4x2048x128 : Shape := ⟨5, ![2, 4, 4, 2048, 128]⟩
abbrev S2x8192x8 : Shape := ⟨3, ![2, 8192, 8]⟩
abbrev S_ : Shape := ⟨0, ![]⟩
abbrev S2x8192x8x1 : Shape := ⟨4, ![2, 8192, 8, 1]⟩
abbrev S1x512 : Shape := ⟨2, ![1, 512]⟩
abbrev S1x1024 : Shape := ⟨2, ![1, 1024]⟩
abbrev S1x512x1024 : Shape := ⟨3, ![1, 512, 1024]⟩
abbrev S1x512x512 : Shape := ⟨3, ![1, 512, 512]⟩
abbrev S1x1x4x512x128 : Shape := ⟨5, ![1, 1, 4, 512, 128]⟩
abbrev S1x4x4x128x128 : Shape := ⟨5, ![1, 4, 4, 128, 128]⟩
abbrev S4x512x128 : Shape := ⟨3, ![4, 512, 128]⟩
abbrev S1x1x1x512x128 : Shape := ⟨5, ![1, 1, 1, 512, 128]⟩
abbrev S512x128 : Shape := ⟨2, ![512, 128]⟩
abbrev S1x1x1x128x128 : Shape := ⟨5, ![1, 1, 1, 128, 128]⟩
abbrev S128x128 : Shape := ⟨2, ![128, 128]⟩
abbrev S1x128x128 : Shape := ⟨3, ![1, 128, 128]⟩
abbrev S1x512x128 : Shape := ⟨3, ![1, 512, 128]⟩
abbrev S512x512 : Shape := ⟨2, ![512, 512]⟩
abbrev S512x1 : Shape := ⟨2, ![512, 1]⟩
abbrev S512x1024 : Shape := ⟨2, ![512, 1024]⟩

abbrev nBuf : Space → Nat
  | .hbm => 61
  | .vmem => 26
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x8x64, .f32⟩
  | .hbm, ⟨3, _⟩ => ⟨S2x8192x8x64, .f32⟩
  | .hbm, ⟨4, _⟩ => ⟨S2x8192x8x64, .f32⟩
  | .hbm, ⟨5, _⟩ => ⟨S2x8x8192, .f32⟩
  | .hbm, ⟨6, _⟩ => ⟨S2x8x8192, .f32⟩
  | .hbm, ⟨7, _⟩ => ⟨S2x8x8192, .f32⟩
  | .hbm, ⟨8, _⟩ => ⟨S512, .f32⟩
  | .hbm, ⟨9, _⟩ => ⟨S1024x1024, .f32⟩
  | .hbm, ⟨10, _⟩ => ⟨S1024, .f32⟩
  | .hbm, ⟨11, _⟩ => ⟨S1024x4096, .f32⟩
  | .hbm, ⟨12, _⟩ => ⟨S4096x1024, .f32⟩
  | .hbm, ⟨13, _⟩ => ⟨S1024, .f32⟩
  | .hbm, ⟨14, _⟩ => ⟨S2x8192x512, .f32⟩
  | .hbm, ⟨15, _⟩ => ⟨S2x8192x1x4x128, .f32⟩
  | .hbm, ⟨16, _⟩ => ⟨S2x1x4x8192x128, .f32⟩
  | .hbm, ⟨17, _⟩ => ⟨S2x8192x512, .f32⟩
  | .hbm, ⟨18, _⟩ => ⟨S2x8192x1x4x128, .f32⟩
  | .hbm, ⟨19, _⟩ => ⟨S2x1x4x8192x128, .f32⟩
  | .hbm, ⟨20, _⟩ => ⟨S2x8192x512, .f32⟩
  | .hbm, ⟨21, _⟩ => ⟨S2x2048x4x4x128, .f32⟩
  | .hbm, ⟨22, _⟩ => ⟨S2x4x4x2048x128, .f32⟩
  | .hbm, ⟨23, _⟩ => ⟨S2x8192x8, .f32⟩
  | .hbm, ⟨24, _⟩ => ⟨S_, .f32⟩
  | .hbm, ⟨25, _⟩ => ⟨S_, .f32⟩
  | .hbm, ⟨26, _⟩ => ⟨S2x8192x8, .f32⟩
  | .hbm, ⟨27, _⟩ => ⟨S2x8192x8, .f32⟩
  | .hbm, ⟨28, _⟩ => ⟨S2x8192x8x1, .f32⟩
  | .hbm, ⟨29, _⟩ => ⟨S2x8192x8x64, .f32⟩
  | .hbm, ⟨30, _⟩ => ⟨S2x8192x512, .f32⟩
  | .hbm, ⟨31, _⟩ => ⟨S2x8192x1x4x128, .f32⟩
  | .hbm, ⟨32, _⟩ => ⟨S2x1x4x8192x128, .f32⟩
  | .hbm, ⟨33, _⟩ => ⟨S2x8192x8, .f32⟩
  | .hbm, ⟨34, _⟩ => ⟨S_, .f32⟩
  | .hbm, ⟨35, _⟩ => ⟨S_, .f32⟩
  | .hbm, ⟨36, _⟩ => ⟨S2x8192x8, .f32⟩
  | .hbm, ⟨37, _⟩ => ⟨S2x8192x8, .f32⟩
  | .hbm, ⟨38, _⟩ => ⟨S2x8192x8x1, .f32⟩
  | .hbm, ⟨39, _⟩ => ⟨S2x8192x8x64, .f32⟩
  | .hbm, ⟨40, _⟩ => ⟨S2x8192x512, .f32⟩
  | .hbm, ⟨41, _⟩ => ⟨S2x8192x1x4x128, .f32⟩
  | .hbm, ⟨42, _⟩ => ⟨S2x1x4x8192x128, .f32⟩
  | .hbm, ⟨43, _⟩ => ⟨S2x8192x8, .f32⟩
  | .hbm, ⟨44, _⟩ => ⟨S_, .f32⟩
  | .hbm, ⟨45, _⟩ => ⟨S_, .f32⟩
  | .hbm, ⟨46, _⟩ => ⟨S2x8192x8, .f32⟩
  | .hbm, ⟨47, _⟩ => ⟨S2x8192x8, .f32⟩
  | .hbm, ⟨48, _⟩ => ⟨S2x8192x8x1, .f32⟩
  | .hbm, ⟨49, _⟩ => ⟨S2x8192x8x64, .f32⟩
  | .hbm, ⟨50, _⟩ => ⟨S2x8192x512, .f32⟩
  | .hbm, ⟨51, _⟩ => ⟨S2x2048x4x4x128, .f32⟩
  | .hbm, ⟨52, _⟩ => ⟨S2x4x4x2048x128, .f32⟩
  | .hbm, ⟨53, _⟩ => ⟨S2x8192x512, .bf16⟩
  | .hbm, ⟨54, _⟩ => ⟨S1x512, .f32⟩
  | .hbm, ⟨55, _⟩ => ⟨S1024x1024, .bf16⟩
  | .hbm, ⟨56, _⟩ => ⟨S1x1024, .f32⟩
  | .hbm, ⟨57, _⟩ => ⟨S1024x4096, .bf16⟩
  | .hbm, ⟨58, _⟩ => ⟨S4096x1024, .bf16⟩
  | .hbm, ⟨59, _⟩ => ⟨S1x1024, .f32⟩
  | .hbm, ⟨60, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x1x4x512x128, .f32⟩
  | .local _ .vmem, ⟨5, _⟩ => ⟨S1x1x4x512x128, .f32⟩
  | .local _ .vmem, ⟨6, _⟩ => ⟨S1x1x4x512x128, .f32⟩
  | .local _ .vmem, ⟨7, _⟩ => ⟨S1x1x4x512x128, .f32⟩
  | .local _ .vmem, ⟨8, _⟩ => ⟨S1x4x4x128x128, .f32⟩
  | .local _ .vmem, ⟨9, _⟩ => ⟨S1x4x4x128x128, .f32⟩
  | .local _ .vmem, ⟨10, _⟩ => ⟨S1x1x4x512x128, .f32⟩
  | .local _ .vmem, ⟨11, _⟩ => ⟨S1x1x4x512x128, .f32⟩
  | .local _ .vmem, ⟨12, _⟩ => ⟨S1x1x4x512x128, .f32⟩
  | .local _ .vmem, ⟨13, _⟩ => ⟨S1x1x4x512x128, .f32⟩
  | .local _ .vmem, ⟨14, _⟩ => ⟨S1x4x4x128x128, .f32⟩
  | .local _ .vmem, ⟨15, _⟩ => ⟨S1x4x4x128x128, .f32⟩
  | .local _ .vmem, ⟨16, _⟩ => ⟨S1x512, .f32⟩
  | .local _ .vmem, ⟨17, _⟩ => ⟨S1024x1024, .bf16⟩
  | .local _ .vmem, ⟨18, _⟩ => ⟨S1x1024, .f32⟩
  | .local _ .vmem, ⟨19, _⟩ => ⟨S1024x4096, .bf16⟩
  | .local _ .vmem, ⟨20, _⟩ => ⟨S4096x1024, .bf16⟩
  | .local _ .vmem, ⟨21, _⟩ => ⟨S1x1024, .f32⟩
  | .local _ .vmem, ⟨22, _⟩ => ⟨S1x512x1024, .f32⟩
  | .local _ .vmem, ⟨23, _⟩ => ⟨S1x512x1024, .f32⟩
  | .local _ .vmem, ⟨24, _⟩ => ⟨S4x512x128, .f32⟩
  | .local _ .vmem, ⟨25, _⟩ => ⟨S4x512x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_0 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_1 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_7 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x4x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x4x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x4x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x4x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S4096x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference2Ideal.lean ====
abbrev S2x8192x1024 : Shape := ⟨3, ![2, 8192, 1024]⟩
abbrev S2x8192x512 : Shape := ⟨3, ![2, 8192, 512]⟩
abbrev S2x8192x8x64 : Shape := ⟨4, ![2, 8192, 8, 64]⟩
abbrev S2x8x8192 : Shape := ⟨3, ![2, 8, 8192]⟩
abbrev S512 : Shape := ⟨1, ![512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x2x8x8192 : Shape := ⟨4, ![1, 2, 8, 8192]⟩
abbrev S3x2x8x8192 : Shape := ⟨4, ![3, 2, 8, 8192]⟩
abbrev S_ : Shape := ⟨0, ![]⟩
abbrev S3x2x8192x8 : Shape := ⟨4, ![3, 2, 8192, 8]⟩
abbrev S3x2x8192x8x1 : Shape := ⟨5, ![3, 2, 8192, 8, 1]⟩
abbrev S1x2x8192x8x64 : Shape := ⟨5, ![1, 2, 8192, 8, 64]⟩
abbrev S3x2x8192x8x64 : Shape := ⟨5, ![3, 2, 8192, 8, 64]⟩
abbrev S2x8192 : Shape := ⟨2, ![2, 8192]⟩
abbrev S2x8192x1 : Shape := ⟨3, ![2, 8192, 1]⟩
abbrev S1x1x512 : Shape := ⟨3, ![1, 1, 512]⟩
abbrev S1x1x1024 : Shape := ⟨3, ![1, 1, 1024]⟩
abbrev S2x8192x4096 : Shape := ⟨3, ![2, 8192, 4096]⟩

abbrev nBuf : Space → Nat
  | .hbm => 101
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x8x64, .f32⟩
  | .hbm, ⟨3, _⟩ => ⟨S2x8192x8x64, .f32⟩
  | .hbm, ⟨4, _⟩ => ⟨S2x8192x8x64, .f32⟩
  | .hbm, ⟨5, _⟩ => ⟨S2x8x8192, .f32⟩
  | .hbm, ⟨6, _⟩ => ⟨S2x8x8192, .f32⟩
  | .hbm, ⟨7, _⟩ => ⟨S2x8x8192, .f32⟩
  | .hbm, ⟨8, _⟩ => ⟨S512, .f32⟩
  | .hbm, ⟨9, _⟩ => ⟨S1024x1024, .f32⟩
  | .hbm, ⟨10, _⟩ => ⟨S1024, .f32⟩
  | .hbm, ⟨11, _⟩ => ⟨S1024x4096, .f32⟩
  | .hbm, ⟨12, _⟩ => ⟨S4096x1024, .f32⟩
  | .hbm, ⟨13, _⟩ => ⟨S1024, .f32⟩
  | .hbm, ⟨14, _⟩ => ⟨S1x2x8x8192, .f32⟩
  | .hbm, ⟨15, _⟩ => ⟨S1x2x8x8192, .f32⟩
  | .hbm, ⟨16, _⟩ => ⟨S1x2x8x8192, .f32⟩
  | .hbm, ⟨17, _⟩ => ⟨S3x2x8x8192, .f32⟩
  | .hbm, ⟨18, _⟩ => ⟨S_, .f32⟩
  | .hbm, ⟨19, _⟩ => ⟨S2x8x8192, .f32⟩
  | .hbm, ⟨20, _⟩ => ⟨S_, .f32⟩
  | .hbm, ⟨21, _⟩ => ⟨S2x8x8192, .f32⟩
  | .hbm, ⟨22, _⟩ => ⟨S2x8x8192, .f32⟩
  | .hbm, ⟨23, _⟩ => ⟨S1x2x8x8192, .f32⟩
  | .hbm, ⟨24, _⟩ => ⟨S3x2x8x8192, .f32⟩
  | .hbm, ⟨25, _⟩ => ⟨S3x2x8x8192, .f32⟩
  | .hbm, ⟨26, _⟩ => ⟨S3x2x8x8192, .f32⟩
  | .hbm, ⟨27, _⟩ => ⟨S_, .f32⟩
  | .hbm, ⟨28, _⟩ => ⟨S2x8x8192, .f32⟩
  | .hbm, ⟨29, _⟩ => ⟨S1x2x8x8192, .f32⟩
  | .hbm, ⟨30, _⟩ => ⟨S3x2x8x8192, .f32⟩
  | .hbm, ⟨31, _⟩ => ⟨S3x2x8x8192, .f32⟩
  | .hbm, ⟨32, _⟩ => ⟨S3x2x8192x8, .f32⟩
  | .hbm, ⟨33, _⟩ => ⟨S3x2x8192x8x1, .f32⟩
  | .hbm, ⟨34, _⟩ => ⟨S1x2x8192x8x64, .f32⟩
  | .hbm, ⟨35, _⟩ => ⟨S1x2x8192x8x64, .f32⟩
  | .hbm, ⟨36, _⟩ => ⟨S1x2x8192x8x64, .f32⟩
  | .hbm, ⟨37, _⟩ => ⟨S3x2x8192x8x64, .f32⟩
  | .hbm, ⟨38, _⟩ => ⟨S3x2x8192x8x64, .f32⟩
  | .hbm, ⟨39, _⟩ => ⟨S3x2x8192x8x64, .f32⟩
  | .hbm, ⟨40, _⟩ => ⟨S_, .f32⟩
  | .hbm, ⟨41, _⟩ => ⟨S2x8192x8x64, .f32⟩
  | .hbm, ⟨42, _⟩ => ⟨S2x8192x512, .f32⟩
  | .hbm, ⟨43, _⟩ => ⟨S2x8192x512, .f32⟩
  | .hbm, ⟨44, _⟩ => ⟨S_, .f32⟩
  | .hbm, ⟨45, _⟩ => ⟨S2x8192, .f32⟩
  | .hbm, ⟨46, _⟩ => ⟨S2x8192x1, .f32⟩
  | .hbm, ⟨47, _⟩ => ⟨S_, .f32⟩
  | .hbm, ⟨48, _⟩ => ⟨S2x8192x1, .f32⟩
  | .hbm, ⟨49, _⟩ => ⟨S2x8192x1, .f32⟩
  | .hbm, ⟨50, _⟩ => ⟨S_, .f32⟩
  | .hbm, ⟨51, _⟩ => ⟨S2x8192x1, .f32⟩
  | .hbm, ⟨52, _⟩ => ⟨S2x8192x1, .f32⟩
  | .hbm, ⟨53, _⟩ => ⟨S2x8192x1, .f32⟩
  | .hbm, ⟨54, _⟩ => ⟨S2x8192x512, .f32⟩
  | .hbm, ⟨55, _⟩ => ⟨S2x8192x512, .f32⟩
  | .hbm, ⟨56, _⟩ => ⟨S1x1x512, .f32⟩
  | .hbm, ⟨57, _⟩ => ⟨S2x8192x512, .f32⟩
  | .hbm, ⟨58, _⟩ => ⟨S2x8192x512, .f32⟩
  | .hbm, ⟨59, _⟩ => ⟨S2x8192x1024, .f32⟩
  | .hbm, ⟨60, _⟩ => ⟨S2x8192x1024, .f32⟩
  | .hbm, ⟨61, _⟩ => ⟨S2x8192x1024, .f32⟩
  | .hbm, ⟨62, _⟩ => ⟨S2x8192x1024, .f32⟩
  | .hbm, ⟨63, _⟩ => ⟨S_, .f32⟩
  | .hbm, ⟨64, _⟩ => ⟨S2x8192, .f32⟩
  | .hbm, ⟨65, _⟩ => ⟨S2x8192x1, .f32⟩
  | .hbm, ⟨66, _⟩ => ⟨S_, .f32⟩
  | .hbm, ⟨67, _⟩ => ⟨S2x8192x1, .f32⟩
  | .hbm, ⟨68, _⟩ => ⟨S2x8192x1, .f32⟩
  | .hbm, ⟨69, _⟩ => ⟨S_, .f32⟩
  | .hbm, ⟨70, _⟩ => ⟨S2x8192x1, .f32⟩
  | .hbm, ⟨71, _⟩ => ⟨S2x8192x1, .f32⟩
  | .hbm, ⟨72, _⟩ => ⟨S2x8192x1, .f32⟩
  | .hbm, ⟨73, _⟩ => ⟨S2x8192x1024, .f32⟩
  | .hbm, ⟨74, _⟩ => ⟨S2x8192x1024, .f32⟩
  | .hbm, ⟨75, _⟩ => ⟨S1x1x1024, .f32⟩
  | .hbm, ⟨76, _⟩ => ⟨S2x8192x1024, .f32⟩
  | .hbm, ⟨77, _⟩ => ⟨S2x8192x1024, .f32⟩
  | .hbm, ⟨78, _⟩ => ⟨S2x8192x4096, .f32⟩
  | .hbm, ⟨79, _⟩ => ⟨S_, .f32⟩
  | .hbm, ⟨80, _⟩ => ⟨S2x8192x4096, .f32⟩
  | .hbm, ⟨81, _⟩ => ⟨S2x8192x4096, .f32⟩
  | .hbm, ⟨82, _⟩ => ⟨S2x8192x4096, .f32⟩
  | .hbm, ⟨83, _⟩ => ⟨S2x8192x1024, .f32⟩
  | .hbm, ⟨84, _⟩ => ⟨S2x8192x1024, .f32⟩
  | .hbm, ⟨85, _⟩ => ⟨S2x8192x1024, .f32⟩
  | .hbm, ⟨86, _⟩ => ⟨S_, .f32⟩
  | .hbm, ⟨87, _⟩ => ⟨S2x8192, .f32⟩
  | .hbm, ⟨88, _⟩ => ⟨S2x8192x1, .f32⟩
  | .hbm, ⟨89, _⟩ => ⟨S_, .f32⟩
  | .hbm, ⟨90, _⟩ => ⟨S2x8192x1, .f32⟩
  | .hbm, ⟨91, _⟩ => ⟨S2x8192x1, .f32⟩
  | .hbm, ⟨92, _⟩ => ⟨S_, .f32⟩
  | .hbm, ⟨93, _⟩ => ⟨S2x8192x1, .f32⟩
  | .hbm, ⟨94, _⟩ => ⟨S2x8192x1, .f32⟩
  | .hbm, ⟨95, _⟩ => ⟨S2x8192x1, .f32⟩
  | .hbm, ⟨96, _⟩ => ⟨S2x8192x1024, .f32⟩
  | .hbm, ⟨97, _⟩ => ⟨S2x8192x1024, .f32⟩
  | .hbm, ⟨98, _⟩ => ⟨S1x1x1024, .f32⟩
  | .hbm, ⟨99, _⟩ => ⟨S2x8192x1024, .f32⟩
  | .hbm, ⟨100, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_6 : Ref sig .tc := ⟨.hbm, 63, rfl⟩
abbrev main_v42 : Ref sig .tc := ⟨.hbm, 64, rfl⟩
abbrev main_v43 : Ref sig .tc := ⟨.hbm, 65, rfl⟩
abbrev main_cst_7 : Ref sig .tc := ⟨.hbm, 66, rfl⟩
abbrev main_v44 : Ref sig .tc := ⟨.hbm, 67, rfl⟩
abbrev main_v45 : Ref sig .tc := ⟨.hbm, 68, rfl⟩
abbrev main_cst_8 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_call0_cst : Ref sig .tc := ⟨.hbm, 79, rfl⟩
abbrev main_call0_v0 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_9 : Ref sig .tc := ⟨.hbm, 86, rfl⟩
abbrev main_v60 : Ref sig .tc := ⟨.hbm, 87, rfl⟩
abbrev main_v61 : Ref sig .tc := ⟨.hbm, 88, rfl⟩
abbrev main_cst_10 : Ref sig .tc := ⟨.hbm, 89, rfl⟩
abbrev main_v62 : Ref sig .tc := ⟨.hbm, 90, rfl⟩
abbrev main_v63 : Ref sig .tc := ⟨.hbm, 91, rfl⟩
abbrev main_cst_11 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩

abbrev nD : Nat := 1
abbrev τ : Topo := Topo.v7x

variable {F : FTy → Type} [FloatOps F]
-- ==== Kernel3.lean ====
abbrev S2x8192x1024 : Shape := ⟨3, ![2, 8192, 1024]⟩
abbrev S1024 : Shape := ⟨1, ![1024]⟩
abbrev S1024x2560 : Shape := ⟨2, ![1024, 2560]⟩
abbrev S1024x1024 : Shape := ⟨2, ![1024, 1024]⟩
abbrev S1024x4096 : Shape := ⟨2, ![1024, 4096]⟩
abbrev S4096x1024 : Shape := ⟨2, ![4096, 1024]⟩
abbrev S1x1024 : Shape := ⟨2, ![1, 1024]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩
abbrev S2x256x256 : Shape := ⟨3, ![2, 256, 256]⟩
abbrev S2x4x8192x128 : Shape := ⟨4, ![2, 4, 8192, 128]⟩
abbrev S2x1x1x8192x512 : Shape := ⟨5, ![2, 1, 1, 8192, 512]⟩
abbrev S2x1x4x2048x512 : Shape := ⟨5, ![2, 1, 4, 2048, 512]⟩
abbrev S2x4x4x512x512 : Shape := ⟨5, ![2, 4, 4, 512, 512]⟩
abbrev S1x1024x1024 : Shape := ⟨3, ![1, 1024, 1024]⟩
abbrev S64x1024 : Shape := ⟨2, ![64, 1024]⟩
abbrev S64x4096 : Shape := ⟨2, ![64, 4096]⟩
abbrev S256x1024 : Shape := ⟨2, ![256, 1024]⟩
abbrev S1x4x1024x128 : Shape := ⟨4, ![1, 4, 1024, 128]⟩
abbrev S1x1x1x1024x512 : Shape := ⟨5, ![1, 1, 1, 1024, 512]⟩
abbrev S1x1x4x256x512 : Shape := ⟨5, ![1, 1, 4, 256, 512]⟩
abbrev S1x4x4x64x512 : Shape := ⟨5, ![1, 4, 4, 64, 512]⟩
abbrev S1024x1 : Shape := ⟨2, ![1024, 1]⟩
abbrev S1024x512 : Shape := ⟨2, ![1024, 512]⟩
abbrev S256x512 : Shape := ⟨2, ![256, 512]⟩
abbrev S64x512 : Shape := ⟨2, ![64, 512]⟩
abbrev S1x1x1x64x512 : Shape := ⟨5, ![1, 1, 1, 64, 512]⟩
abbrev S16x512 : Shape := ⟨2, ![16, 512]⟩
abbrev S1x1x1x16x512 : Shape := ⟨5, ![1, 1, 1, 16, 512]⟩
abbrev S128x128 : Shape := ⟨2, ![128, 128]⟩
abbrev S1x1x128x128 : Shape := ⟨4, ![1, 1, 128, 128]⟩

abbrev nBuf : Space → Nat
  | .hbm => 125
  | .vmem => 41
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x2560, .f32⟩
  | .hbm, ⟨3, _⟩ => ⟨S1024x1024, .f32⟩
  | .hbm, ⟨4, _⟩ => ⟨S1024x4096, .f32⟩
  | .hbm, ⟨5, _⟩ => ⟨S4096x1024, .f32⟩
  | .hbm, ⟨6, _⟩ => ⟨S1x1024, .f32⟩
  | .hbm, ⟨7, _⟩ => ⟨S256, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S256, .i32⟩
  | .hbm, ⟨15, _⟩ => ⟨S256, .i32⟩
  | .hbm, ⟨16, _⟩ => ⟨S_, .i32⟩
  | .hbm, ⟨17, _⟩ => ⟨S256, .i32⟩
  | .hbm, ⟨18, _⟩ => ⟨S256, .i1⟩
  | .hbm, ⟨19, _⟩ => ⟨S_, .i32⟩
  | .hbm, ⟨20, _⟩ => ⟨S256, .i32⟩
  | .hbm, ⟨21, _⟩ => ⟨S256, .i1⟩
  | .hbm, ⟨22, _⟩ => ⟨S_, .i32⟩
  | .hbm, ⟨23, _⟩ => ⟨S_, .i1⟩
  | .hbm, ⟨24, _⟩ => ⟨S256, .i1⟩
  | .hbm, ⟨25, _⟩ => ⟨S256, .i1⟩
  | .hbm, ⟨26, _⟩ => ⟨S256, .i1⟩
  | .hbm, ⟨27, _⟩ => ⟨S256, .i32⟩
  | .hbm, ⟨28, _⟩ => ⟨S256, .i32⟩
  | .hbm, ⟨29, _⟩ => ⟨S256, .i32⟩
  | .hbm, ⟨30, _⟩ => ⟨S_, .i32⟩
  | .hbm, ⟨31, _⟩ => ⟨S256, .i32⟩
  | .hbm, ⟨32, _⟩ => ⟨S256, .i32⟩
  | .hbm, ⟨33, _⟩ => ⟨S_, .i32⟩
  | .hbm, ⟨34, _⟩ => ⟨S_, .i32⟩
  | .hbm, ⟨35, _⟩ => ⟨S256, .i32⟩
  | .hbm, ⟨36, _⟩ => ⟨S256, .i32⟩
  | .hbm, ⟨37, _⟩ => ⟨S256, .i32⟩
  | .hbm, ⟨38, _⟩ => ⟨S_, .i32⟩
  | .hbm, ⟨39, _⟩ => ⟨S256, .i32⟩
  | .hbm, ⟨40, _⟩ => ⟨S256, .i1⟩
  | .hbm, ⟨41, _⟩ => ⟨S256, .i32⟩
  | .hbm, ⟨42, _⟩ => ⟨S256, .i32⟩
  | .hbm, ⟨43, _⟩ => ⟨S_, .i32⟩
  | .hbm, ⟨44, _⟩ => ⟨S256, .i32⟩
  | .hbm, ⟨45, _⟩ => ⟨S256, .i1⟩
  | .hbm, ⟨46, _⟩ => ⟨S256, .i1⟩
  | .hbm, ⟨47, _⟩ => ⟨S_, .i32⟩
  | .hbm, ⟨48, _⟩ => ⟨S256, .i32⟩
  | .hbm, ⟨49, _⟩ => ⟨S256, .i32⟩
  | .hbm, ⟨50, _⟩ => ⟨S256, .i32⟩
  | .hbm, ⟨51, _⟩ => ⟨S256, .i32⟩
  | .hbm, ⟨52, _⟩ => ⟨S256x1, .i32⟩
  | .hbm, ⟨53, _⟩ => ⟨S1x256, .i32⟩
  | .hbm, ⟨54, _⟩ => ⟨S256x256, .i32⟩
  | .hbm, ⟨55, _⟩ => ⟨S256x256, .i32⟩
  | .hbm, ⟨56, _⟩ => ⟨S256x256, .i1⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .i1⟩
  | .hbm, ⟨61, _⟩ => ⟨S_, .i32⟩
  | .hbm, ⟨62, _⟩ => ⟨S_, .i32⟩
  | .hbm, ⟨63, _⟩ => ⟨S256, .i32⟩
  | .hbm, ⟨64, _⟩ => ⟨S256, .i32⟩
  | .hbm, ⟨65, _⟩ => ⟨S_, .i32⟩
  | .hbm, ⟨66, _⟩ => ⟨S256, .i32⟩
  | .hbm, ⟨67, _⟩ => ⟨S256, .i1⟩
  | .hbm, ⟨68, _⟩ => ⟨S_, .i32⟩
  | .hbm, ⟨69, _⟩ => ⟨S256, .i32⟩
  | .hbm, ⟨70, _⟩ => ⟨S256, .i1⟩
  | .hbm, ⟨71, _⟩ => ⟨S_, .i32⟩
  | .hbm, ⟨72, _⟩ => ⟨S_, .i1⟩
  | .hbm, ⟨73, _⟩ => ⟨S256, .i1⟩
  | .hbm, ⟨74, _⟩ => ⟨S256, .i1⟩
  | .hbm, ⟨75, _⟩ => ⟨S256, .i1⟩
  | .hbm, ⟨76, _⟩ => ⟨S256, .i32⟩
  | .hbm, ⟨77, _⟩ => ⟨S256, .i32⟩
  | .hbm, ⟨78, _⟩ => ⟨S256, .i32⟩
  | .hbm, ⟨79, _⟩ => ⟨S_, .i32⟩
  | .hbm, ⟨80, _⟩ => ⟨S256, .i32⟩
  | .hbm, ⟨81, _⟩ => ⟨S256, .i32⟩
  | .hbm, ⟨82, _⟩ => ⟨S_, .i32⟩
  | .hbm, ⟨83, _⟩ => ⟨S_, .i32⟩
  | .hbm, ⟨84, _⟩ => ⟨S256, .i32⟩
  | .hbm, ⟨85, _⟩ => ⟨S256, .i32⟩
  | .hbm, ⟨86, _⟩ => ⟨S256, .i32⟩
  | .hbm, ⟨87, _⟩ => ⟨S_, .i32⟩
  | .hbm, ⟨88, _⟩ => ⟨S256, .i32⟩
  | .hbm, ⟨89, _⟩ => ⟨S256, .i1⟩
  | .hbm, ⟨90, _⟩ => ⟨S256, .i32⟩
  | .hbm, ⟨91, _⟩ => ⟨S256, .i32⟩
  | .hbm, ⟨92, _⟩ => ⟨S_, .i32⟩
  | .hbm, ⟨93, _⟩ => ⟨S256, .i32⟩
  | .hbm, ⟨94, _⟩ => ⟨S256, .i1⟩
  | .hbm, ⟨95, _⟩ => ⟨S256, .i1⟩
  | .hbm, ⟨96, _⟩ => ⟨S_, .i32⟩
  | .hbm, ⟨97, _⟩ => ⟨S256, .i32⟩
  | .hbm, ⟨98, _⟩ => ⟨S256, .i32⟩
  | .hbm, ⟨99, _⟩ => ⟨S256, .i32⟩
  | .hbm, ⟨100, _⟩ => ⟨S256, .i32⟩
  | .hbm, ⟨101, _⟩ => ⟨S256x1, .i32⟩
  | .hbm, ⟨102, _⟩ => ⟨S1x256, .i32⟩
  | .hbm, ⟨103, _⟩ => ⟨S256x256, .i32⟩
  | .hbm, ⟨104, _⟩ => ⟨S256x256, .i32⟩
  | .hbm, ⟨105, _⟩ => ⟨S256x256, .i1⟩
  | .hbm, ⟨106, _⟩ => ⟨S1x256x256, .i1⟩
  | .hbm, ⟨107, _⟩ => ⟨S1x256x256, .i1⟩
  | .hbm, ⟨108, _⟩ => ⟨S2x256x256, .i1⟩
  | .hbm, ⟨109, _⟩ => ⟨S2x256x256, .f32⟩
  | .hbm, ⟨110, _⟩ => ⟨S2x256x256, .bf16⟩
  | .hbm, ⟨111, _⟩ => ⟨S2x4x8192x128, .f32⟩
  | .hbm, ⟨112, _⟩ => ⟨S2x4x8192x128, .f32⟩
  | .hbm, ⟨113, _⟩ => ⟨S2x1x1x8192x512, .bf16⟩
  | .hbm, ⟨114, _⟩ => ⟨S2x1x4x2048x512, .bf16⟩
  | .hbm, ⟨115, _⟩ => ⟨S2x4x4x512x512, .bf16⟩
  | .hbm, ⟨116, _⟩ => ⟨S2x1x1x8192x512, .bf16⟩
  | .hbm, ⟨117, _⟩ => ⟨S2x1x4x2048x512, .bf16⟩
  | .hbm, ⟨118, _⟩ => ⟨S2x4x4x512x512, .bf16⟩
  | .hbm, ⟨119, _⟩ => ⟨S2x1x1x8192x512, .bf16⟩
  | .hbm, ⟨120, _⟩ => ⟨S2x1x4x2048x512, .bf16⟩
  | .hbm, ⟨121, _⟩ => ⟨S2x4x4x512x512, .bf16⟩
  | .hbm, ⟨122, _⟩ => ⟨S1024x1024, .bf16⟩
  | .hbm, ⟨123, _⟩ => ⟨S1024x4096, .bf16⟩
  | .hbm, ⟨124, _⟩ => ⟨S4096x1024, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x2560, .f32⟩
  | .local _ .vmem, ⟨4, _⟩ => ⟨S2x256x256, .bf16⟩
  | .local _ .vmem, ⟨5, _⟩ => ⟨S64x1024, .f32⟩
  | .local _ .vmem, ⟨6, _⟩ => ⟨S64x1024, .f32⟩
  | .local _ .vmem, ⟨7, _⟩ => ⟨S64x4096, .f32⟩
  | .local _ .vmem, ⟨8, _⟩ => ⟨S64x4096, .f32⟩
  | .local _ .vmem, ⟨9, _⟩ => ⟨S256x1024, .f32⟩
  | .local _ .vmem, ⟨10, _⟩ => ⟨S256x1024, .f32⟩
  | .local _ .vmem, ⟨11, _⟩ => ⟨S1x4x1024x128, .f32⟩
  | .local _ .vmem, ⟨12, _⟩ => ⟨S1x4x1024x128, .f32⟩
  | .local _ .vmem, ⟨13, _⟩ => ⟨S1x4x1024x128, .f32⟩
  | .local _ .vmem, ⟨14, _⟩ => ⟨S1x4x1024x128, .f32⟩
  | .local _ .vmem, ⟨15, _⟩ => ⟨S1x1x1x1024x512, .bf16⟩
  | .local _ .vmem, ⟨16, _⟩ => ⟨S1x1x1x1024x512, .bf16⟩
  | .local _ .vmem, ⟨17, _⟩ => ⟨S1x1x4x256x512, .bf16⟩
  | .local _ .vmem, ⟨18, _⟩ => ⟨S1x1x4x256x512, .bf16⟩
  | .local _ .vmem, ⟨19, _⟩ => ⟨S1x4x4x64x512, .bf16⟩
  | .local _ .vmem, ⟨20, _⟩ => ⟨S1x4x4x64x512, .bf16⟩
  | .local _ .vmem, ⟨21, _⟩ => ⟨S1x1x1x1024x512, .bf16⟩
  | .local _ .vmem, ⟨22, _⟩ => ⟨S1x1x1x1024x512, .bf16⟩
  | .local _ .vmem, ⟨23, _⟩ => ⟨S1x1x4x256x512, .bf16⟩
  | .local _ .vmem, ⟨24, _⟩ => ⟨S1x1x4x256x512, .bf16⟩
  | .local _ .vmem, ⟨25, _⟩ => ⟨S1x4x4x64x512, .bf16⟩
  | .local _ .vmem, ⟨26, _⟩ => ⟨S1x4x4x64x512, .bf16⟩
  | .local _ .vmem, ⟨27, _⟩ => ⟨S1x1x1x1024x512, .bf16⟩
  | .local _ .vmem, ⟨28, _⟩ => ⟨S1x1x1x1024x512, .bf16⟩
  | .local _ .vmem, ⟨29, _⟩ => ⟨S1x1x4x256x512, .bf16⟩
  | .local _ .vmem, ⟨30, _⟩ => ⟨S1x1x4x256x512, .bf16⟩
  | .local _ .vmem, ⟨31, _⟩ => ⟨S1x4x4x64x512, .bf16⟩
  | .local _ .vmem, ⟨32, _⟩ => ⟨S1x4x4x64x512, .bf16⟩
  | .local _ .vmem, ⟨33, _⟩ => ⟨S64x1024, .bf16⟩
  | .local _ .vmem, ⟨34, _⟩ => ⟨S64x1024, .bf16⟩
  | .local _ .vmem, ⟨35, _⟩ => ⟨S64x4096, .bf16⟩
  | .local _ .vmem, ⟨36, _⟩ => ⟨S64x4096, .bf16⟩
  | .local _ .vmem, ⟨37, _⟩ => ⟨S256x1024, .bf16⟩
  | .local _ .vmem, ⟨38, _⟩ => ⟨S256x1024, .bf16⟩
  | .local _ .vmem, ⟨39, _⟩ => ⟨S1024x1024, .bf16⟩
  | .local _ .vmem, ⟨40, _⟩ => ⟨S1024x2560, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_1 : Ref sig .tc := ⟨.hbm, 16, rfl⟩
abbrev main_call0_v5 : Ref sig .tc := ⟨.hbm, 17, rfl⟩
abbrev main_call0_v6 : Ref sig .tc := ⟨.hbm, 18, rfl⟩
abbrev main_call0_c_2 : Ref sig .tc := ⟨.hbm, 19, rfl⟩
abbrev main_call0_v7 : Ref sig .tc := ⟨.hbm, 20, rfl⟩
abbrev main_call0_v8 : Ref sig .tc := ⟨.hbm, 21, rfl⟩
abbrev main_call0_c_3 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_v2 : Ref sig .tc := ⟨.hbm, 29, rfl⟩
abbrev main_c_0 : Ref sig .tc := ⟨.hbm, 30, rfl⟩
abbrev main_v3 : Ref sig .tc := ⟨.hbm, 31, rfl⟩
abbrev main_v4 : Ref sig .tc := ⟨.hbm, 32, rfl⟩
abbrev main_c_1 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v5 : Ref sig .tc := ⟨.hbm, 50, rfl⟩
abbrev main_v6 : Ref sig .tc := ⟨.hbm, 51, rfl⟩
abbrev main_v7 : Ref sig .tc := ⟨.hbm, 52, rfl⟩
abbrev main_v8 : Ref sig .tc := ⟨.hbm, 53, rfl⟩
abbrev main_v9 : Ref sig .tc := ⟨.hbm, 54, rfl⟩
abbrev main_v10 : Ref sig .tc := ⟨.hbm, 55, rfl⟩
abbrev main_v11 : Ref sig .tc := ⟨.hbm, 56, rfl⟩
abbrev main_c_2 : Ref sig .tc := ⟨.hbm, 57, rfl⟩
abbrev main_call2_v0 : Ref sig .tc := ⟨.hbm, 58, rfl⟩
abbrev main_call2_c : Ref sig .tc := ⟨.hbm, 59, rfl⟩
abbrev main_call2_v1 : Ref sig .tc := ⟨.hbm, 60, rfl⟩
abbrev main_call2_c_0 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_c_1 : Ref sig .tc := ⟨.hbm, 65, rfl⟩
abbrev main_call2_v5 : Ref sig .tc := ⟨.hbm, 66, rfl⟩
abbrev main_call2_v6 : Ref sig .tc := ⟨.hbm, 67, rfl⟩
abbrev main_call2_c_2 : Ref sig .tc := ⟨.hbm, 68, rfl⟩
abbrev main_call2_v7 : Ref sig .tc := ⟨.hbm, 69, rfl⟩
abbrev main_call2_v8 : Ref sig .tc := ⟨.hbm, 70, rfl⟩
abbrev main_call2_c_3 : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_v12 : Ref sig .tc := ⟨.hbm, 75, rfl⟩
abbrev main_call2_v13 : Ref sig .tc := ⟨.hbm, 76, rfl⟩
abbrev main_call2_v14 : Ref sig .tc := ⟨.hbm, 77, rfl⟩
abbrev main_v12 : Ref sig .tc := ⟨.hbm, 78, rfl⟩
abbrev main_c_3 : Ref sig .tc := ⟨.hbm, 79, rfl⟩
abbrev main_v13 : Ref sig .tc := ⟨.hbm, 80, rfl⟩
abbrev main_v14 : Ref sig .tc := ⟨.hbm, 81, rfl⟩
abbrev main_c_4 : Ref sig .tc := ⟨.hbm, 82, rfl⟩
abbrev main_call3_v0 : Ref sig .tc := ⟨.hbm, 83, rfl⟩
abbrev main_call3_v1 : Ref sig .tc := ⟨.hbm, 84, rfl⟩
abbrev main_call3_v2 : Ref sig .tc := ⟨.hbm, 85, rfl⟩
abbrev main_call3_v3 : Ref sig .tc := ⟨.hbm, 86, rfl⟩
abbrev main_call3_v4 : Ref sig .tc := ⟨.hbm, 87, rfl⟩
abbrev main_call3_v5 : Ref sig .tc := ⟨.hbm, 88, rfl⟩
abbrev main_call3_v6 : Ref sig .tc := ⟨.hbm, 89, rfl⟩
abbrev main_call3_v7 : Ref sig .tc := ⟨.hbm, 90, rfl⟩
abbrev main_call3_v8 : Ref sig .tc := ⟨.hbm, 91, rfl⟩
abbrev main_call3_c : Ref sig .tc := ⟨.hbm, 92, rfl⟩
abbrev main_call3_v9 : Ref sig .tc := ⟨.hbm, 93, rfl⟩
abbrev main_call3_v10 : Ref sig .tc := ⟨.hbm, 94, rfl⟩
abbrev main_call3_v11 : Ref sig .tc := ⟨.hbm, 95, rfl⟩
abbrev main_call3_c_0 : Ref sig .tc := ⟨.hbm, 96, rfl⟩
abbrev main_call3_v12 : Ref sig .tc := ⟨.hbm, 97, rfl⟩
abbrev main_call3_v13 : Ref sig .tc := ⟨.hbm, 98, rfl⟩
abbrev main_v15 : Ref sig .tc := ⟨.hbm, 99, rfl⟩
abbrev main_v16 : Ref sig .tc := ⟨.hbm, 100, rfl⟩
abbrev main_v17 : Ref sig .tc := ⟨.hbm, 101, rfl⟩
abbrev main_v18 : Ref sig .tc := ⟨.hbm, 102, rfl⟩
abbrev main_v19 : Ref sig .tc := ⟨.hbm, 103, rfl⟩
abbrev main_v20 : Ref sig .tc := ⟨.hbm, 104, rfl⟩
abbrev main_v21 : Ref sig .tc := ⟨.hbm, 105, rfl⟩
abbrev main_v22 : Ref sig .tc := ⟨.hbm, 106, rfl⟩
abbrev main_v23 : Ref sig .tc := ⟨.hbm, 107, rfl⟩
abbrev main_v24 : Ref sig .tc := ⟨.hbm, 108, rfl⟩
abbrev main_v25 : Ref sig .tc := ⟨.hbm, 109, rfl⟩
abbrev main_v26 : Ref sig .tc := ⟨.hbm, 110, rfl⟩
abbrev main_v27_0 : Ref sig .tc := ⟨.hbm, 111, rfl⟩
abbrev main_v27_1 : Ref sig .tc := ⟨.hbm, 112, rfl⟩
abbrev main_v27_2 : Ref sig .tc := ⟨.hbm, 113, rfl⟩
abbrev main_v27_3 : Ref sig .tc := ⟨.hbm, 114, rfl⟩
abbrev main_v27_4 : Ref sig .tc := ⟨.hbm, 115, rfl⟩
abbrev main_v27_5 : Ref sig .tc := ⟨.hbm, 116, rfl⟩
abbrev main_v27_6 : Ref sig .tc := ⟨.hbm, 117, rfl⟩
abbrev main_v27_7 : Ref sig .tc := ⟨.hbm, 118, rfl⟩
abbrev main_v27_8 : Ref sig .tc := ⟨.hbm, 119, rfl⟩
abbrev main_v27_9 : Ref sig .tc := ⟨.hbm, 120, rfl⟩
abbrev main_v27_10 : Ref sig .tc := ⟨.hbm, 121, rfl⟩
abbrev main_v27_11 : Ref sig .tc := ⟨.hbm, 122, rfl⟩
abbrev main_v27_12 : Ref sig .tc := ⟨.hbm, 123, rfl⟩
abbrev main_v27_13 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_stg19_1 : Ref sig .tc := ⟨.vmem, 36, rfl⟩
abbrev cc0_stg20_0 : Ref sig .tc := ⟨.vmem, 37, rfl⟩
abbrev cc0_stg20_1 : Ref sig .tc := ⟨.vmem, 38, rfl⟩
abbrev cc0_scratch0 : Ref sig .tc := ⟨.vmem, 39, rfl⟩
abbrev cc0_scratch1 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34
abbrev cc0_sem19_0 : DmaSem sig := 35
abbrev cc0_sem19_1 : DmaSem sig := 36
abbrev cc0_sem20_0 : DmaSem sig := 37
abbrev cc0_sem20_1 : DmaSem sig := 38

abbrev nD : Nat := 1
abbrev τ : Topo := Topo.v7x

variable {F : FTy → Type} [FloatOps F]

abbrev grid0 : Pipeline.Grid := ⟨2, ![2, 8], ![false, false]⟩

def k0_off1 (i : grid0.Coords) (c0_i32_1349 : BitVec 32) : Fin 4 → Nat :=
  let c0_1350 : Index := 0#32
  let c0_1351 : Index := 0#32
  let arg1 : BitVec 32 := BitVec.ofNat 32 (i 1).val
  let c1_i32 : BitVec 32 := 1#32
  let c0_i32_1344 : BitVec 32 := 0#32
  let v1151 : BitVec 1 := Scalar.cmpi .eq c1_i32 c0_i32_1344
  let c1_i32_1345 : BitVec 32 := 1#32
  let v1152 : BitVec 32 := Scalar.select v1151 c1_i32_1345 c1_i32
  let v1153 : BitVec 32 := Scalar.remsi arg1 v1152
  let c0_i32_1347 : BitVec 32 := 0#32
  let v1155 : BitVec 1 := Scalar.cmpi .slt v1153 c0_i32_1347
  let c0_i32_1348 : BitVec 32 := 0#32
  let v1156 : BitVec 1 := Scalar.cmpi .slt v1152 c0_i32_1348
  let v1157 : BitVec 1 := Scalar.xori v1155 v1156
  let c0_i32_1346 : BitVec 32 := 0#32
  let v1154 : BitVec 1 := Scalar.cmpi .ne v1153 c0_i32_1346
  let v1158 : BitVec 1 := Scalar.andi v1157 v1154
  let v1159 : BitVec 32 := Scalar.addi v1153 v1152
  let v1160 : BitVec 32 := Scalar.select v1158 v1159 v1153
  let c8_i32 : BitVec 32 := 8#32
  let v1162 : BitVec 32 := Scalar.muli v1160 c8_i32
  let v1163 : BitVec 32 := Scalar.addi v1162 c0_i32_1349
  let v1164 : Index := Scalar.indexCast v1163
  let c0_1352 : Index := 0#32
  ![0, 0, v1164.toNat, 0]
def k0_off2 (i : grid0.Coords) (c0_i32_1354 : BitVec 32) : Fin 4 → Nat :=
  let c0_1355 : Index := 0#32
  let c1_1356 : Index := 1#32
  let arg1 : BitVec 32 := BitVec.ofNat 32 (i 1).val
  let c1_i32 : BitVec 32 := 1#32
  let c0_i32_1344 : BitVec 32 := 0#32
  let v1151 : BitVec 1 := Scalar.cmpi .eq c1_i32 c0_i32_1344
  let c1_i32_1345 : BitVec 32 := 1#32
  let v1152 : BitVec 32 := Scalar.select v1151 c1_i32_1345 c1_i32
  let v1153 : BitVec 32 := Scalar.remsi arg1 v1152
  let c0_i32_1347 : BitVec 32 := 0#32
  let v1155 : BitVec 1 := Scalar.cmpi .slt v1153 c0_i32_1347
  let c0_i32_1348 : BitVec 32 := 0#32
  let v1156 : BitVec 1 := Scalar.cmpi .slt v1152 c0_i32_1348
  let v1157 : BitVec 1 := Scalar.xori v1155 v1156
  let c0_i32_1346 : BitVec 32 := 0#32
  let v1154 : BitVec 1 := Scalar.cmpi .ne v1153 c0_i32_1346
  let v1158 : BitVec 1 := Scalar.andi v1157 v1154
  let v1159 : BitVec 32 := Scalar.addi v1153 v1152
  let v1160 : BitVec 32 := Scalar.select v1158 v1159 v1153
  let c8_i32_1353 : BitVec 32 := 8#32
  let v1169 : BitVec 32 := Scalar.muli v1160 c8_i32_1353
  let v1170 : BitVec 32 := Scalar.addi v1169 c0_i32_1354
  let v1171 : Index := Scalar.indexCast v1170
  let c0_1357 : Index := 0#32
  ![0, 1, v1171.toNat, 0]
def k0_off3 (i : grid0.Coords) (c0_i32_1359 : BitVec 32) : Fin 4 → Nat :=
  let c0_1360 : Index := 0#32
  let c2_1361 : Index := 2#32
  let arg1 : BitVec 32 := BitVec.ofNat 32 (i 1).val
  let c1_i32 : BitVec 32 := 1#32
  let c0_i32_1344 : BitVec 32 := 0#32
  let v1151 : BitVec 1 := Scalar.cmpi .eq c1_i32 c0_i32_1344
  let c1_i32_1345 : BitVec 32 := 1#32
  let v1152 : BitVec 32 := Scalar.select v1151 c1_i32_1345 c1_i32
  let v1153 : BitVec 32 := Scalar.remsi arg1 v1152
  let c0_i32_1347 : BitVec 32 := 0#32
  let v1155 : BitVec 1 := Scalar.cmpi .slt v1153 c0_i32_1347
  let c0_i32_1348 : BitVec 32 := 0#32
  let v1156 : BitVec 1 := Scalar.cmpi .slt v1152 c0_i32_1348
  let v1157 : BitVec 1 := Scalar.xori v1155 v1156
  let c0_i32_1346 : BitVec 32 := 0#32
  let v1154 : BitVec 1 := Scalar.cmpi .ne v1153 c0_i32_1346
  let v1158 : BitVec 1 := Scalar.andi v1157 v1154
  let v1159 : BitVec 32 := Scalar.addi v1153 v1152
  let v1160 : BitVec 32 := Scalar.select v1158 v1159 v1153
  let c8_i32_1358 : BitVec 32 := 8#32
  let v1176 : BitVec 32 := Scalar.muli v1160 c8_i32_1358
  let v1177 : BitVec 32 := Scalar.addi v1176 c0_i32_1359
  let v1178 : Index := Scalar.indexCast v1177
  let c0_1362 : Index := 0#32
  ![0, 2, v1178.toNat, 0]
def k0_off4 (i : grid0.Coords) (c0_i32_1364 : BitVec 32) : Fin 4 → Nat :=
  let c0_1365 : Index := 0#32
  let c3_1366 : Index := 3#32
  let arg1 : BitVec 32 := BitVec.ofNat 32 (i 1).val
  let c1_i32 : BitVec 32 := 1#32
  let c0_i32_1344 : BitVec 32 := 0#32
  let v1151 : BitVec 1 := Scalar.cmpi .eq c1_i32 c0_i32_1344
  let c1_i32_1345 : BitVec 32 := 1#32
  let v1152 : BitVec 32 := Scalar.select v1151 c1_i32_1345 c1_i32
  let v1153 : BitVec 32 := Scalar.remsi arg1 v1152
  let c0_i32_1347 : BitVec 32 := 0#32
  let v1155 : BitVec 1 := Scalar.cmpi .slt v1153 c0_i32_1347
  let c0_i32_1348 : BitVec 32 := 0#32
  let v1156 : BitVec 1 := Scalar.cmpi .slt v1152 c0_i32_1348
  let v1157 : BitVec 1 := Scalar.xori v1155 v1156
  let c0_i32_1346 : BitVec 32 := 0#32
  let v1154 : BitVec 1 := Scalar.cmpi .ne v1153 c0_i32_1346
  let v1158 : BitVec 1 := Scalar.andi v1157 v1154
  let v1159 : BitVec 32 := Scalar.addi v1153 v1152
  let v1160 : BitVec 32 := Scalar.select v1158 v1159 v1153
  let c8_i32_1363 : BitVec 32 := 8#32
  let v1183 : BitVec 32 := Scalar.muli v1160 c8_i32_1363
  let v1184 : BitVec 32 := Scalar.addi v1183 c0_i32_1364
  let v1185 : Index := Scalar.indexCast v1184
  let c0_1367 : Index := 0#32
  ![0, 3, v1185.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![arg0.toNat, c0_i32_5.toNat, v16.toNat, c0_i32_6.toNat]

def cc0_transform_8 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![arg0.toNat, c0_i32_5.toNat, v16.toNat, c0_i32_6.toNat]

def cc0_transform_9 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_10 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_11 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_12 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_13 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_14 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_15 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_16 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_17 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_18 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_19 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_20 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2560 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x1x1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x4x256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x4x64x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x1x1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x4x256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x4x4x64x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1x1x1024x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1x4x256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x4x4x64x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S64x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S64x4096 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== Reference3Ideal.lean ====
abbrev S2x8192x1024 : Shape := ⟨3, ![2, 8192, 1024]⟩
abbrev S1024 : Shape := ⟨1, ![1024]⟩
abbrev S1024x2560 : Shape := ⟨2, ![1024, 2560]⟩
abbrev S1024x1024 : Shape := ⟨2, ![1024, 1024]⟩
abbrev S1024x4096 : Shape := ⟨2, ![1024, 4096]⟩
abbrev S4096x1024 : Shape := ⟨2, ![4096, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2560 : Shape := ⟨3, ![2, 8192, 2560]⟩
abbrev S2x8192x512 : Shape := ⟨3, ![2, 8192, 512]⟩
abbrev S2x1x1x8192x512 : Shape := ⟨5, ![2, 1, 1, 8192, 512]⟩

abbrev nBuf : Space → Nat
  | .hbm => 32
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x2560, .f32⟩
  | .hbm, ⟨3, _⟩ => ⟨S1024x1024, .f32⟩
  | .hbm, ⟨4, _⟩ => ⟨S1024x4096, .f32⟩
  | .hbm, ⟨5, _⟩ => ⟨S4096x1024, .f32⟩
  | .hbm, ⟨6, _⟩ => ⟨S2x8192x1024, .f32⟩
  | .hbm, ⟨7, _⟩ => ⟨S_, .f32⟩
  | .hbm, ⟨8, _⟩ => ⟨S2x8192, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1, .f32⟩
  | .hbm, ⟨17, _⟩ => ⟨S2x8192x1024, .f32⟩
  | .hbm, ⟨18, _⟩ => ⟨S2x8192x1024, .f32⟩
  | .hbm, ⟨19, _⟩ => ⟨S1x1x1024, .f32⟩
  | .hbm, ⟨20, _⟩ => ⟨S2x8192x1024, .f32⟩
  | .hbm, ⟨21, _⟩ => ⟨S2x8192x1024, .f32⟩
  | .hbm, ⟨22, _⟩ => ⟨S2x8192x2560, .f32⟩
  | .hbm, ⟨23, _⟩ => ⟨S2x8192x512, .f32⟩
  | .hbm, ⟨24, _⟩ => ⟨S2x8192x512, .f32⟩
  | .hbm, ⟨25, _⟩ => ⟨S2x8192x512, .f32⟩
  | .hbm, ⟨26, _⟩ => ⟨S2x8192x512, .f32⟩
  | .hbm, ⟨27, _⟩ => ⟨S2x8192x512, .f32⟩
  | .hbm, ⟨28, _⟩ => ⟨S2x1x1x8192x512, .f32⟩
  | .hbm, ⟨29, _⟩ => ⟨S2x1x1x8192x512, .bf16⟩
  | .hbm, ⟨30, _⟩ => ⟨S2x1x1x8192x512, .f32⟩
  | .hbm, ⟨31, _⟩ => ⟨S2x1x1x8192x512, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Proof.Inp.Run.lean ====
/- The input projection's body at one grid point, run: the branch and the offsets. Only what the claim reads is named: the first
   dilation's keys and values, and the weight scratch the first point fills for all the others. -/
module

public import proofs.«01_k».proof.Proof.Gen.Kernel3Ideal.Frame
public import proofs.«01_k».proof.Proof.Gen.Kernel3Ideal.Skeleton

@[expose] public section

set_option maxRecDepth 65536

noncomputable section

namespace Cert.Kernel3Ideal.Inp

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch is on the first grid point. -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

/-- It is taken at the first point only. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 16 = 0)

/-- Row at which a residue's strided rows start in the gate's and the rest's windows. -/
def row (i : grid0.Coords) (c : BitVec 32) : Nat := k0_off1 i c 2

theorem off1_row (i : grid0.Coords) (c : BitVec 32) : k0_off1 i c = ![0, 0, row i c, 0] := by
  funext a; fin_cases a <;> rfl
instance off1_closed (i : grid0.Coords) (c : BitVec 32) : ClosedOff (k0_off1 i c) := ⟨![0, 0, row i c, 0], off1_row i c⟩

theorem off2_row (i : grid0.Coords) (c : BitVec 32) : k0_off2 i c = ![0, 1, row i c, 0] := by
  funext a; fin_cases a <;> rfl
instance off2_closed (i : grid0.Coords) (c : BitVec 32) : ClosedOff (k0_off2 i c) := ⟨![0, 1, row i c, 0], off2_row i c⟩

theorem off3_row (i : grid0.Coords) (c : BitVec 32) : k0_off3 i c = ![0, 2, row i c, 0] := by
  funext a; fin_cases a <;> rfl
instance off3_closed (i : grid0.Coords) (c : BitVec 32) : ClosedOff (k0_off3 i c) := ⟨![0, 2, row i c, 0], off3_row i c⟩

theorem off4_row (i : grid0.Coords) (c : BitVec 32) : k0_off4 i c = ![0, 3, row i c, 0] := by
  funext a; fin_cases a <;> rfl
instance off4_closed (i : grid0.Coords) (c : BitVec 32) : ClosedOff (k0_off4 i c) := ⟨![0, 3, row i c, 0], off4_row i c⟩

end Cert.Kernel3Ideal.Inp

end
-- ==== Proof.Inp.RunA.lean ====
/- The input projection's body at one grid point, run at the first point. Only what the claim reads is named: the first
   dilation's keys and values, and the weight scratch the first point fills for all the others. -/
module

public import proofs.«01_k».proof.Proof.Inp.Run

@[expose] public section

set_option maxRecDepth 65536

noncomputable section

namespace Cert.Kernel3Ideal.Inp

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option maxHeartbeats 4536000 in
/-- The body at the first point, where it also fills the weight scratch: it runs, leaves the inputs as they were, the first keys' and the
    first values' windows with the pieces the run finds (`L12`, `L15`), the weight scratch with its pieces (`LS`), and
    everything else at some contents. -/
noncomputable def runA (c : Dev nD) (i : grid0.Coords)
    (arg2 : Memref sig .tc .vmem S1x1024x1024 .f32) (harg2 : arg2.IsWhole)
    (arg3 : Memref sig .tc .vmem S1x1024 .f32) (harg3 : arg3.IsWhole)
    (arg4 : Memref sig .tc .vmem S1024x2560 .f32) (harg4 : arg4.IsWhole)
    (arg5 : Memref sig .tc .vmem S2x256x256 .bf16) (harg5 : arg5.IsWhole)
    (arg6 : Memref sig .tc .vmem S64x1024 .f32) (harg6 : arg6.IsWhole)
    (arg7 : Memref sig .tc .vmem S64x4096 .f32) (harg7 : arg7.IsWhole)
    (arg8 : Memref sig .tc .vmem S256x1024 .f32) (harg8 : arg8.IsWhole)
    (arg9 : Memref sig .tc .vmem S1x4x1024x128 .f32) (harg9 : arg9.IsWhole)
    (arg10 : Memref sig .tc .vmem S1x4x1024x128 .f32) (harg10 : arg10.IsWhole)
    (arg11 : Memref sig .tc .vmem S1x1x1x1024x512 .bf16) (harg11 : arg11.IsWhole)
    (arg12 : Memref sig .tc .vmem S1x1x4x256x512 .bf16) (harg12 : arg12.IsWhole)
    (arg13 : Memref sig .tc .vmem S1x4x4x64x512 .bf16) (harg13 : arg13.IsWhole)
    (arg14 : Memref sig .tc .vmem S1x1x1x1024x512 .bf16) (harg14 : arg14.IsWhole)
    (arg15 : Memref sig .tc .vmem S1x1x4x256x512 .bf16) (harg15 : arg15.IsWhole)
    (arg16 : Memref sig .tc .vmem S1x4x4x64x512 .bf16) (harg16 : arg16.IsWhole)
    (arg17 : Memref sig .tc .vmem S1x1x1x1024x512 .bf16) (harg17 : arg17.IsWhole)
    (arg18 : Memref sig .tc .vmem S1x1x4x256x512 .bf16) (harg18 : arg18.IsWhole)
    (arg19 : Memref sig .tc .vmem S1x4x4x64x512 .bf16) (harg19 : arg19.IsWhole)
    (arg20 : Memref sig .tc .vmem S64x1024 .bf16) (harg20 : arg20.IsWhole)
    (arg21 : Memref sig .tc .vmem S64x4096 .bf16) (harg21 : arg21.IsWhole)
    (arg22 : Memref sig .tc .vmem S256x1024 .bf16) (harg22 : arg22.IsWhole)
    (arg23 : Memref sig .tc .vmem S1024x1024 .bf16) (harg23 : arg23.IsWhole)
    (arg24 : Memref sig .tc .vmem S1024x2560 .bf16) (harg24 : arg24.IsWhole)
    (hc0 : cond0_0 i)
    (x0 : Vec F S1x1024x1024 .f32) (x1 : Vec F S1x1024 .f32) (x2 : Vec F S1024x2560 .f32) (x3 : Vec F S2x256x256 .bf16) (x4 : Vec F S64x1024 .f32) (x5 : Vec F S64x4096 .f32) (x6 : Vec F S256x1024 .f32) :
    Σ' (L12 : List (View.Piece (Elt F) S1x1x1x1024x512 .bf16)), Σ' (L15 : List (View.Piece (Elt F) S1x1x1x1024x512 .bf16)), { LS : List (View.Piece (Elt F) S1024x2560 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ f, arg14.view.loc (c : Thread nD τ) ↦[arg14.view.set]{fullShare} arg14.view.writes (Elt F) f L12) ∗ (∃ d, owns (c : Thread nD τ) arg15 fullShare d) ∗ (∃ d, owns (c : Thread nD τ) arg16 fullShare d) ∗ (∃ f, arg17.view.loc (c : Thread nD τ) ↦[arg17.view.set]{fullShare} arg17.view.writes (Elt F) f L15) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ f, arg24.view.loc (c : Thread nD τ) ↦[arg24.view.set]{fullShare} arg24.view.writes (Elt F) f LS)) -∗ K ⟨⟩))
          ⊢ wp frame (wpE (defs₀ (F := F)) Variants.none c none) E
            (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, ?_, fun E K => ?run⟩
  case run =>
    simp only [cc0_in_proj_eq_skeleton]; unfold cc0_in_proj_skel
    simp only [k0_part61_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]; · iexists _; iexact H12
    isplitl [H13]
    · iexists _, _; isplitr; swap; · iexact H13
      ipureintro; rfl
    isplitl [H14]
    · iexists _, _; isplitr; swap; · iexact H14
      ipureintro; rfl
    isplitl [H15]; · iexists _; iexact H15
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [HS0]
    · iexists _, _; isplitr; swap; · iexact HS0
      ipureintro; rfl
    iexists _; iexact HS1

end Cert.Kernel3Ideal.Inp

end
-- ==== Proof.Inp.RunB.lean ====
/- The input projection's body at one grid point, run at a later point. Only what the claim reads is named: the first
   dilation's keys and values, and the weight scratch the first point fills for all the others. -/
module

public import proofs.«01_k».proof.Proof.Inp.RunA

@[expose] public section

set_option maxRecDepth 65536

noncomputable section

namespace Cert.Kernel3Ideal.Inp

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option maxHeartbeats 4536000 in
/-- The body at a later point, where it only reads the weight scratch (at `xs`): the same, with the scratch handed back. -/
noncomputable def runB (c : Dev nD) (i : grid0.Coords)
    (arg2 : Memref sig .tc .vmem S1x1024x1024 .f32) (harg2 : arg2.IsWhole)
    (arg3 : Memref sig .tc .vmem S1x1024 .f32) (harg3 : arg3.IsWhole)
    (arg4 : Memref sig .tc .vmem S1024x2560 .f32) (harg4 : arg4.IsWhole)
    (arg5 : Memref sig .tc .vmem S2x256x256 .bf16) (harg5 : arg5.IsWhole)
    (arg6 : Memref sig .tc .vmem S64x1024 .f32) (harg6 : arg6.IsWhole)
    (arg7 : Memref sig .tc .vmem S64x4096 .f32) (harg7 : arg7.IsWhole)
    (arg8 : Memref sig .tc .vmem S256x1024 .f32) (harg8 : arg8.IsWhole)
    (arg9 : Memref sig .tc .vmem S1x4x1024x128 .f32) (harg9 : arg9.IsWhole)
    (arg10 : Memref sig .tc .vmem S1x4x1024x128 .f32) (harg10 : arg10.IsWhole)
    (arg11 : Memref sig .tc .vmem S1x1x1x1024x512 .bf16) (harg11 : arg11.IsWhole)
    (arg12 : Memref sig .tc .vmem S1x1x4x256x512 .bf16) (harg12 : arg12.IsWhole)
    (arg13 : Memref sig .tc .vmem S1x4x4x64x512 .bf16) (harg13 : arg13.IsWhole)
    (arg14 : Memref sig .tc .vmem S1x1x1x1024x512 .bf16) (harg14 : arg14.IsWhole)
    (arg15 : Memref sig .tc .vmem S1x1x4x256x512 .bf16) (harg15 : arg15.IsWhole)
    (arg16 : Memref sig .tc .vmem S1x4x4x64x512 .bf16) (harg16 : arg16.IsWhole)
    (arg17 : Memref sig .tc .vmem S1x1x1x1024x512 .bf16) (harg17 : arg17.IsWhole)
    (arg18 : Memref sig .tc .vmem S1x1x4x256x512 .bf16) (harg18 : arg18.IsWhole)
    (arg19 : Memref sig .tc .vmem S1x4x4x64x512 .bf16) (harg19 : arg19.IsWhole)
    (arg20 : Memref sig .tc .vmem S64x1024 .bf16) (harg20 : arg20.IsWhole)
    (arg21 : Memref sig .tc .vmem S64x4096 .bf16) (harg21 : arg21.IsWhole)
    (arg22 : Memref sig .tc .vmem S256x1024 .bf16) (harg22 : arg22.IsWhole)
    (arg23 : Memref sig .tc .vmem S1024x1024 .bf16) (harg23 : arg23.IsWhole)
    (arg24 : Memref sig .tc .vmem S1024x2560 .bf16) (harg24 : arg24.IsWhole)
    (hc0 : ¬cond0_0 i)
    (x0 : Vec F S1x1024x1024 .f32) (x1 : Vec F S1x1024 .f32) (x2 : Vec F S1024x2560 .f32) (x3 : Vec F S2x256x256 .bf16) (x4 : Vec F S64x1024 .f32) (x5 : Vec F S64x4096 .f32) (x6 : Vec F S256x1024 .f32) (xs : Vec F S1024x2560 .bf16) :
    Σ' (L12 : List (View.Piece (Elt F) S1x1x1x1024x512 .bf16)), { L15 : List (View.Piece (Elt F) S1x1x1x1024x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ owns (c : Thread nD τ) arg24 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ f, arg14.view.loc (c : Thread nD τ) ↦[arg14.view.set]{fullShare} arg14.view.writes (Elt F) f L12) ∗ (∃ d, owns (c : Thread nD τ) arg15 fullShare d) ∗ (∃ d, owns (c : Thread nD τ) arg16 fullShare d) ∗ (∃ f, arg17.view.loc (c : Thread nD τ) ↦[arg17.view.set]{fullShare} arg17.view.writes (Elt F) f L15) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ owns (c : Thread nD τ) arg24 fullShare xs) -∗ K ⟨⟩))
          ⊢ wp frame (wpE (defs₀ (F := F)) Variants.none c none) E
            (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, fun E K => ?run⟩
  case run =>
    simp only [cc0_in_proj_eq_skeleton]; unfold cc0_in_proj_skel
    simp only [k0_part61_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg24.eq_unread hfs1
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]; · iexists _; iexact H12
    isplitl [H13]
    · iexists _, _; isplitr; swap; · iexact H13
      ipureintro; rfl
    isplitl [H14]
    · iexists _, _; isplitr; swap; · iexact H14
      ipureintro; rfl
    isplitl [H15]; · iexists _; iexact H15
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [HS0]
    · iexists _, _; isplitr; swap; · iexact HS0
      ipureintro; rfl
    iexists _; isplitr; · ipureintro; exact harg24.read_unread _
    iexact HS1

end Cert.Kernel3Ideal.Inp

end
-- ==== Proof.Inp.Vals.lean ====
/- What the input projection's body leaves at a grid point: the normed rows times a slice of the weights' columns. -/
module

public import proofs.«01_k».proof.Proof.Inp.RunB
public import Idealize.ShloMosaic.Lib.VecWindow
public import Idealize.ShloMosaic.Lib.Pipeline.ValueKit.Basic

@[expose] public section

set_option maxRecDepth 65536

noncomputable section

namespace Cert.Kernel3Ideal.Inp

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The normed rows, as the body stores them. -/
def hval (x0 : Vec F S1x1024x1024 .f32) (x1 : Vec F S1x1024 .f32) : Vec F S1024x1024 .bf16 := k0_pay8 (k0_pay7 x0 x1)

/-- The weights, as the first point stores them. -/
def wval (x2 : Vec F S1024x2560 .f32) : Vec F S1024x2560 .bf16 := k0_pay6 x2

/-- The key columns of the weights, and the value columns. -/
def kcols (w : Vec F S1024x2560 .bf16) : Vec F S1024x512 .bf16 := View.ld w (Rect.unit (s := S1024x2560) ![0, 1536] S1024x512.size inb_S1024x2560_S1024x512_0_1536)
def vcols (w : Vec F S1024x2560 .bf16) : Vec F S1024x512 .bf16 := View.ld w (Rect.unit (s := S1024x2560) ![0, 2048] S1024x512.size inb_S1024x2560_S1024x512_0_2048)

/-- The keys of a grid point's rows, and the values. -/
def kOut (x0 : Vec F S1x1024x1024 .f32) (x1 : Vec F S1x1024 .f32) (w : Vec F S1024x2560 .bf16) : Vec F S1x1x1x1024x512 .bf16 :=
  k0_pay109 (hval x0 x1) (kcols w)
def vOut (x0 : Vec F S1x1024x1024 .f32) (x1 : Vec F S1x1024 .f32) (w : Vec F S1024x2560 .bf16) : Vec F S1x1x1x1024x512 .bf16 :=
  k0_pay207 (k0_pay206 (hval x0 x1) (vcols w))

/-- A load of a whole block reads it. -/
theorem whole_load {S : Shape} {e : EltTy} (arg : Memref sig .tc .vmem S e) (h : arg.IsWhole) (x : Vec F S e)
    (off : Fin S.rank → ℕ) (inb) (hoff : off = fun _ => 0) :
    View.readAt (Elt F) arg.view (Rect.unit (s := S) off S.size inb).toLoadRect (h.unread x) = x := by
  rw [View.readAt_eq_ld, h.read_unread, View.ld_unit_zero hoff]

/-- A load from a buffer at known contents. -/
theorem part_load {S : Shape} {e : EltTy} (arg : Memref sig .tc .vmem S e) (h : arg.IsWhole) (x : Vec F S e) (r : Rect S) :
    View.readAt (Elt F) arg.view r.toLoadRect (h.unread x) = View.ld x r := by
  rw [View.readAt_eq_ld, h.read_unread]

/-- A load of part of a buffer just stored whole. -/
theorem part_cov {S : Shape} {e : EltTy} (v : View sig .tc .vmem S e) (x : Vec F S e) (off : Fin S.rank → ℕ) (inb) (h : ∀ a, off a = 0) (r : Rect S) :
    v.readCov [(⟨Rect.unit off S.size inb, x⟩ : View.Piece (Elt F) S e)] r.toLoadRect = View.ld x r := by
  rw [View.readCov_eq_canon', View.canon_cons_unit_lit inb x [] h]

variable (c : Dev nD) (i : grid0.Coords)
    (arg2 : Memref sig .tc .vmem S1x1024x1024 .f32) (harg2 : arg2.IsWhole)
    (arg3 : Memref sig .tc .vmem S1x1024 .f32) (harg3 : arg3.IsWhole)
    (arg4 : Memref sig .tc .vmem S1024x2560 .f32) (harg4 : arg4.IsWhole)
    (arg5 : Memref sig .tc .vmem S2x256x256 .bf16) (harg5 : arg5.IsWhole)
    (arg6 : Memref sig .tc .vmem S64x1024 .f32) (harg6 : arg6.IsWhole)
    (arg7 : Memref sig .tc .vmem S64x4096 .f32) (harg7 : arg7.IsWhole)
    (arg8 : Memref sig .tc .vmem S256x1024 .f32) (harg8 : arg8.IsWhole)
    (arg9 : Memref sig .tc .vmem S1x4x1024x128 .f32) (harg9 : arg9.IsWhole)
    (arg10 : Memref sig .tc .vmem S1x4x1024x128 .f32) (harg10 : arg10.IsWhole)
    (arg11 : Memref sig .tc .vmem S1x1x1x1024x512 .bf16) (harg11 : arg11.IsWhole)
    (arg12 : Memref sig .tc .vmem S1x1x4x256x512 .bf16) (harg12 : arg12.IsWhole)
    (arg13 : Memref sig .tc .vmem S1x4x4x64x512 .bf16) (harg13 : arg13.IsWhole)
    (arg14 : Memref sig .tc .vmem S1x1x1x1024x512 .bf16) (harg14 : arg14.IsWhole)
    (arg15 : Memref sig .tc .vmem S1x1x4x256x512 .bf16) (harg15 : arg15.IsWhole)
    (arg16 : Memref sig .tc .vmem S1x4x4x64x512 .bf16) (harg16 : arg16.IsWhole)
    (arg17 : Memref sig .tc .vmem S1x1x1x1024x512 .bf16) (harg17 : arg17.IsWhole)
    (arg18 : Memref sig .tc .vmem S1x1x4x256x512 .bf16) (harg18 : arg18.IsWhole)
    (arg19 : Memref sig .tc .vmem S1x4x4x64x512 .bf16) (harg19 : arg19.IsWhole)
    (arg20 : Memref sig .tc .vmem S64x1024 .bf16) (harg20 : arg20.IsWhole)
    (arg21 : Memref sig .tc .vmem S64x4096 .bf16) (harg21 : arg21.IsWhole)
    (arg22 : Memref sig .tc .vmem S256x1024 .bf16) (harg22 : arg22.IsWhole)
    (arg23 : Memref sig .tc .vmem S1024x1024 .bf16) (harg23 : arg23.IsWhole)
    (arg24 : Memref sig .tc .vmem S1024x2560 .bf16) (harg24 : arg24.IsWhole)
    (x0 : Vec F S1x1024x1024 .f32) (x1 : Vec F S1x1024 .f32) (x2 : Vec F S1024x2560 .f32) (x3 : Vec F S2x256x256 .bf16) (x4 : Vec F S64x1024 .f32) (x5 : Vec F S64x4096 .f32) (x6 : Vec F S256x1024 .f32)

/-- The normed rows as the body at the first point reads them back. -/
theorem hA : runA.sl.v34 c arg2 harg2 arg3 harg3 arg23 x0 x1 = hval x0 x1 := by
  unfold runA.sl.v34 runA.sl.HS0_1 runA.sl.r
  rw [part_cov _ _ _ _ (by decide), View.ld_unit_zero (by decide)]
  rw [whole_load _ _ _ _ _ (by decide), whole_load _ _ _ _ _ (by decide)]
  rfl

/-- The normed rows as the body at a later point reads them back. -/
theorem hB : runB.sl.v34 c arg2 harg2 arg3 harg3 arg23 x0 x1 = hval x0 x1 := by
  unfold runB.sl.v34 runB.sl.HS0_1 runB.sl.r
  rw [part_cov _ _ _ _ (by decide), View.ld_unit_zero (by decide)]
  rw [whole_load _ _ _ _ _ (by decide), whole_load _ _ _ _ _ (by decide)]
  rfl

/-- What the first point stores in the weights' scratch. -/
theorem wA : runA.sl.HS1_1 c arg4 harg4 x2 = [⟨Rect.unit ![0, 0] S1024x2560.size inb_S1024x2560_S1024x2560_0_0, wval x2⟩] := by
  unfold runA.sl.HS1_1
  rw [whole_load _ _ _ _ _ (by decide)]
  rfl

/-- At a later point the keys' window holds the keys, from the weights the scratch holds. -/
theorem readB_k (hc0 : ¬cond0_0 i) (xs : Vec F S1024x2560 .bf16) (f) :
    arg14.view.read (Elt F) (arg14.view.writes (Elt F) f (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 xs).1) = kOut x0 x1 xs := by
  unfold runB
  dsimp only
  rw [View.read_writes_full, hB, part_load]
  rfl

/-- The values' window likewise. -/
theorem readB_v (hc0 : ¬cond0_0 i) (xs : Vec F S1024x2560 .bf16) (f) :
    arg17.view.read (Elt F) (arg17.view.writes (Elt F) f (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 xs).2.1) = vOut x0 x1 xs := by
  unfold runB
  dsimp only
  unfold runB.sl.r_26
  rw [View.read_writes_full, hB, part_load]
  rfl

/-- At the first point the keys come from the weights just stored. -/
theorem readA_k (hc0 : cond0_0 i) (f) :
    arg14.view.read (Elt F) (arg14.view.writes (Elt F) f (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6).1) = kOut x0 x1 (wval x2) := by
  unfold runA
  dsimp only
  unfold runA.sl.v404
  rw [View.read_writes_full, hA, wA, part_cov _ _ _ _ (by decide)]
  rfl

/-- The values likewise. -/
theorem readA_v (hc0 : cond0_0 i) (f) :
    arg17.view.read (Elt F) (arg17.view.writes (Elt F) f (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6).2.1) = vOut x0 x1 (wval x2) := by
  unfold runA
  dsimp only
  unfold runA.sl.r_26 runA.sl.v771
  rw [View.read_writes_full, hA, wA, part_cov _ _ _ _ (by decide)]
  rfl

/-- And the scratch holds the weights. -/
theorem readA_w (hc0 : cond0_0 i) (f) :
    arg24.view.read (Elt F) (arg24.view.writes (Elt F) f (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6).2.2.1) = wval x2 := by
  unfold runA
  dsimp only
  rw [wA, View.read_writes_full]

end Cert.Kernel3Ideal.Inp

end
-- ==== Proof.Inp.Frame.lean ====
/- The input projection's frame: from the body's runs at one grid point to the whole launch. The first point fills the
   weight scratch, which the later ones read; the first dilation's keys and values are named, the other outputs are not. -/
module

public import proofs.«01_k».proof.Proof.Inp.Vals
public import proofs.«01_k».proof.Proof.Gen.Kernel3Ideal.Frame
public import proofs.«01_k».proof.Proof.Gen.Kernel3Ideal.Points
public import Idealize.ShloMosaic.Lib.Claim

@[expose] public section

set_option maxRecDepth 16384

noncomputable section

namespace Cert.Kernel3Ideal.Inp

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffer that stages each window at a point. -/
abbrev ms0_0 (t : Fin cfg0.N) : Memref sig .tc .vmem S1x1024x1024 .f32 := win0_0.stage (cfg0.slots t 0)
abbrev ms0_1 (t : Fin cfg0.N) : Memref sig .tc .vmem S1x1024 .f32 := win0_1.stage (cfg0.slots t 1)
abbrev ms0_2 (t : Fin cfg0.N) : Memref sig .tc .vmem S1024x2560 .f32 := win0_2.stage (cfg0.slots t 2)
abbrev ms0_3 (t : Fin cfg0.N) : Memref sig .tc .vmem S2x256x256 .bf16 := win0_3.stage (cfg0.slots t 3)
abbrev ms0_4 (t : Fin cfg0.N) : Memref sig .tc .vmem S64x1024 .f32 := win0_4.stage (cfg0.slots t 4)
abbrev ms0_5 (t : Fin cfg0.N) : Memref sig .tc .vmem S64x4096 .f32 := win0_5.stage (cfg0.slots t 5)
abbrev ms0_6 (t : Fin cfg0.N) : Memref sig .tc .vmem S256x1024 .f32 := win0_6.stage (cfg0.slots t 6)
abbrev ms0_7 (t : Fin cfg0.N) : Memref sig .tc .vmem S1x4x1024x128 .f32 := win0_7.stage (cfg0.slots t 7)
abbrev ms0_8 (t : Fin cfg0.N) : Memref sig .tc .vmem S1x4x1024x128 .f32 := win0_8.stage (cfg0.slots t 8)
abbrev ms0_9 (t : Fin cfg0.N) : Memref sig .tc .vmem S1x1x1x1024x512 .bf16 := win0_9.stage (cfg0.slots t 9)
abbrev ms0_10 (t : Fin cfg0.N) : Memref sig .tc .vmem S1x1x4x256x512 .bf16 := win0_10.stage (cfg0.slots t 10)
abbrev ms0_11 (t : Fin cfg0.N) : Memref sig .tc .vmem S1x4x4x64x512 .bf16 := win0_11.stage (cfg0.slots t 11)
abbrev ms0_12 (t : Fin cfg0.N) : Memref sig .tc .vmem S1x1x1x1024x512 .bf16 := win0_12.stage (cfg0.slots t 12)
abbrev ms0_13 (t : Fin cfg0.N) : Memref sig .tc .vmem S1x1x4x256x512 .bf16 := win0_13.stage (cfg0.slots t 13)
abbrev ms0_14 (t : Fin cfg0.N) : Memref sig .tc .vmem S1x4x4x64x512 .bf16 := win0_14.stage (cfg0.slots t 14)
abbrev ms0_15 (t : Fin cfg0.N) : Memref sig .tc .vmem S1x1x1x1024x512 .bf16 := win0_15.stage (cfg0.slots t 15)
abbrev ms0_16 (t : Fin cfg0.N) : Memref sig .tc .vmem S1x1x4x256x512 .bf16 := win0_16.stage (cfg0.slots t 16)
abbrev ms0_17 (t : Fin cfg0.N) : Memref sig .tc .vmem S1x4x4x64x512 .bf16 := win0_17.stage (cfg0.slots t 17)
abbrev ms0_18 (t : Fin cfg0.N) : Memref sig .tc .vmem S64x1024 .bf16 := win0_18.stage (cfg0.slots t 18)
abbrev ms0_19 (t : Fin cfg0.N) : Memref sig .tc .vmem S64x4096 .bf16 := win0_19.stage (cfg0.slots t 19)
abbrev ms0_20 (t : Fin cfg0.N) : Memref sig .tc .vmem S256x1024 .bf16 := win0_20.stage (cfg0.slots t 20)

/-- The scratch of the normed rows, and the scratch of the weights. -/
abbrev scM0_0 : Memref sig .tc .vmem S1024x1024 .bf16 := Memref.whole cc0_scratch0
abbrev scM0_1 : Memref sig .tc .vmem S1024x2560 .bf16 := Memref.whole cc0_scratch1

/-- What the launch hands over between points: both scratches at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The weights, as every point finds them. -/
def wts (c : Dev nD) (t : Fin cfg0.N) : Vec F S1024x2560 .bf16 := wval (iblk m c 2 t)

/-- The weights' window is the whole array at every point. -/
theorem idx2 : ∀ t : Fin cfg0.N, win0_2.index t (0 : Fin 2) = 0 ∧ win0_2.index t (1 : Fin 2) = 0 :=
  (by decide +kernel : ∀ t : Fin grid0.N, _)

theorem emb2 (t : Fin cfg0.N) (y : S1024x2560.Idx) : ((cfg0.win 2).blk t).view.emb y = y := by
  obtain ⟨e0, e1⟩ := idx2 t
  funext a; apply Fin.ext
  match a with
  | ⟨0, _⟩ => show win0_2.index t (0 : Fin 2) * 1024 + 1 * (y 0).val = (y 0).val; omega
  | ⟨1, _⟩ => show win0_2.index t (1 : Fin 2) * 2560 + 1 * (y 1).val = (y 1).val; omega

theorem rd2 (t : Fin cfg0.N) (A : S1024x2560.Idx → Elt F .f32) : (((cfg0.win 2).blk t).view.read (Elt F) A : S1024x2560.Idx → Elt F .f32) = A :=
  funext fun y => congrArg A (emb2 t y)

theorem wts_eq (c : Dev nD) (t t' : Fin cfg0.N) : wts m c t = wts m c t' := by
  unfold wts iblk
  generalize V m c (Pipeline.arrRef spec0 2) = A
  exact congrArg (wval (F := F)) ((rd2 t A).trans (rd2 t' A).symm)

/-- What holds between points: before the first one what the launch hands over, after it the weights in their scratch. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare (wts m c ⟨n, hn⟩)) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) (t : Fin cfg0.N) :
    PhiS m c n h = iprop(iprop((∃ d, owns (c : Thread nD τ) scM0_0 fullShare d) ∗ owns (c : Thread nD τ) scM0_1 fullShare (wts m c t)) ∗ (∃ r, prngReg c r)) := by
  cases n with
  | zero => exact absurd rfl hz
  | succ n => rw [wts_eq m c t ⟨n, h⟩]; rfl

/-- The windows whose contents are not named: every output but the first dilation's keys (12) and values (15). -/
def forgets0 : Fin 21 → Bool := fun w => decide (7 ≤ w.val) && !(w.val == 12) && !(w.val == 15)

/-- What the launch is proved from: after a point's body each input buffer holds its block, the keys' and the values' windows hold
    the projection of the point's rows, and the rest is unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, _⟩ => kOut (iblk m c 0 t) (iblk m c 1 t) (wts m c t)
    | ⟨13, h⟩ => Pipeline.Dat.unnamed (cfg := cfg0) ⟨13, h⟩ t
    | ⟨14, h⟩ => Pipeline.Dat.unnamed (cfg := cfg0) ⟨14, h⟩ t
    | ⟨15, _⟩ => vOut (iblk m c 0 t) (iblk m c 1 t) (wts m c t)
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨19, h⟩ => Pipeline.Dat.unnamed (cfg := cfg0) ⟨19, h⟩ t
    | ⟨20, h⟩ => Pipeline.Dat.unnamed (cfg := cfg0) ⟨20, h⟩ t
    | ⟨_ + 21, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_12 (c : Dev nD) (t : Fin cfg0.N) : (dats m 0 c).after 12 t = kOut (iblk m c 0 t) (iblk m c 1 t) (wts m c t) := by dsimp only [dats]
theorem after0_15 (c : Dev nD) (t : Fin cfg0.N) : (dats m 0 c).after 15 t = vOut (iblk m c 0 t) (iblk m c 1 t) (wts m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is called with at a point, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare ((dats m 0 c).before 12 t d))
    ∗ (∃ d, owns (c : Thread nD τ) (ms0_13 t) fullShare d)
    ∗ (∃ d, owns (c : Thread nD τ) (ms0_14 t) fullShare d)
    ∗ (∃ d, owns (c : Thread nD τ) (ms0_15 t) fullShare ((dats m 0 c).before 15 t d))
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ owns (c : Thread nD τ) (ms0_12 t) fullShare ((dats m 0 c).after 12 t)
    ∗ (∃ d, owns (c : Thread nD τ) (ms0_13 t) fullShare d)
    ∗ (∃ d, owns (c : Thread nD τ) (ms0_14 t) fullShare d)
    ∗ owns (c : Thread nD τ) (ms0_15 t) fullShare ((dats m 0 c).after 15 t)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d))

set_option maxHeartbeats 4000000 in
/-- The body at any point: at the first one from the scratches at anything, at a later one from the weights left there. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6, after0_12, after0_15]
  rw [show (dats m 0 c).Φ t.succ = PhiS m c (t.val + 1) t.isLt from rfl, PhiS_pos m c _ _ (Nat.succ_ne_zero _) t]
  rw [show (dats m 0 c).Φ t.castSucc = PhiS m c t.val (Nat.le_of_lt t.isLt) from rfl]
  have hN : t.val < 16 := lt_of_lt_of_eq t.isLt (show cfg0.N = 16 from N_0)
  by_cases hz : t.val = 0
  · rw [PhiS_zero m c _ _ hz, PhiA0_eq]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
    iapply ((runA c (grid0.coords t) _ _ _ _ _ _ _ _ _ _ _ _ _ _ _ _ _ _ _ _ _ _ _ _ _ _ _ _ _ _ _ _ _ _ _ _ _ _ _ _ _ _ _ _ _ _ ((hcond0_0 t).mpr (by omega)) (iblk m c 0 t) (iblk m c 1 t) (iblk m c 2 t) (iblk m c 3 t) (iblk m c 4 t) (iblk m c 5 t) (iblk m c 6 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [HS0]; · iexact HS0
    isplitl [HS1]; · iexact HS1
    iintro ⟨H0, H1, H2, H3, H4, H5, H6, H7, H8, H9, H10, H11, ⟨%e12, H12⟩, H13, H14, ⟨%e15, H15⟩, H16, H17, H18, H19, H20, HS0, ⟨%es, HS1⟩⟩
    isplitl [HS0 HS1 Hg]
    · isplitl [HS0 HS1]
      · isplitl [HS0]; · iexact HS0
        unfold owns; iexists _; isplitr
        swap; · iexact HS1
        ipureintro; exact readA_w c _ _ _ _ _ _ _ _ _ _ _ _ _ _ _ _ _ _ _ _ _ _ _ _ _ _ _ _ _ _ _ _ _ _ _ _ _ _ _ _ _ _ _ _ _ _ _ _ _ _ _ _ _ _ _ _
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]
    · unfold owns; iexists _; isplitr
      swap; · iexact H12
      ipureintro; exact readA_k c _ _ _ _ _ _ _ _ _ _ _ _ _ _ _ _ _ _ _ _ _ _ _ _ _ _ _ _ _ _ _ _ _ _ _ _ _ _ _ _ _ _ _ _ _ _ _ _ _ _ _ _ _ _ _ _
    isplitl [H13]; · iexact H13
    isplitl [H14]; · iexact H14
    isplitl [H15]
    · unfold owns; iexists _; isplitr
      swap; · iexact H15
      ipureintro; exact readA_v c _ _ _ _ _ _ _ _ _ _ _ _ _ _ _ _ _ _ _ _ _ _ _ _ _ _ _ _ _ _ _ _ _ _ _ _ _ _ _ _ _ _ _ _ _ _ _ _ _ _ _ _ _ _ _ _
    isplitl [H16]; · iexact H16
    isplitl [H17]; · iexact H17
    isplitl [H18]; · iexact H18
    isplitl [H19]; · iexact H19
    iexact H20
  · rw [PhiS_pos m c _ _ hz t]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
    iapply ((runB c (grid0.coords t) _ _ _ _ _ _ _ _ _ _ _ _ _ _ _ _ _ _ _ _ _ _ _ _ _ _ _ _ _ _ _ _ _ _ _ _ _ _ _ _ _ _ _ _ _ _ (fun h => hz (by have := (hcond0_0 t).mp h; omega)) (iblk m c 0 t) (iblk m c 1 t) (iblk m c 2 t) (iblk m c 3 t) (iblk m c 4 t) (iblk m c 5 t) (iblk m c 6 t) (wts m c t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [HS0]; · iexact HS0
    isplitl [HS1]; · iexact HS1
    iintro ⟨H0, H1, H2, H3, H4, H5, H6, H7, H8, H9, H10, H11, ⟨%e12, H12⟩, H13, H14, ⟨%e15, H15⟩, H16, H17, H18, H19, H20, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]
    · unfold owns; iexists _; isplitr
      swap; · iexact H12
      ipureintro; exact readB_k c _ _ _ _ _ _ _ _ _ _ _ _ _ _ _ _ _ _ _ _ _ _ _ _ _ _ _ _ _ _ _ _ _ _ _ _ _ _ _ _ _ _ _ _ _ _ _ _ _ _ _ _ _ _ _ _ _
    isplitl [H13]; · iexact H13
    isplitl [H14]; · iexact H14
    isplitl [H15]
    · unfold owns; iexists _; isplitr
      swap; · iexact H15
      ipureintro; exact readB_v c _ _ _ _ _ _ _ _ _ _ _ _ _ _ _ _ _ _ _ _ _ _ _ _ _ _ _ _ _ _ _ _ _ _ _ _ _ _ _ _ _ _ _ _ _ _ _ _ _ _ _ _ _ _ _ _ _
    isplitl [H16]; · iexact H16
    isplitl [H17]; · iexact H17
    isplitl [H18]; · iexact H18
    isplitl [H19]; · iexact H19
    iexact H20

/-- The body table's row at a point's slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The same for the library, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- The launch's hand-over is what holds before the first point, -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- and what holds after the last gives it back. -/
theorem hout (c : Dev nD) : (dats m 0 c).Φ (Fin.last cfg0.N) ⊢ Pipeline.ΦA spec0 c := by
  have hN : cfg0.N = 16 := N_0
  rw [show (dats m 0 c).Φ (Fin.last cfg0.N) = PhiS m c (Fin.last cfg0.N).val (Nat.le_of_lt_succ (Fin.last cfg0.N).isLt) from rfl,
    PhiS_pos m c _ _ (by rw [Fin.val_last]; omega) ⟨0, by omega⟩, PhiA0_eq]
  iintro ⟨⟨HS0, HS1⟩, Hg⟩
  isplitl [HS0 HS1]
  · isplitl [HS0]
    · iexact HS0
    iexists _; iexact HS1
  iexact Hg

set_option backward.isDefEq.respectTransparency.types false in
/-- The launch, with the counters at zero at the end. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The keys after the launch. -/
theorem end_k (r) (h : Pipeline.RDat.FramePost (cfgs 0) (fun c => (dats m 0 c).toRForget forgets0) (V m) r) (c : Dev nD) :
    r.2.mem ((c.tc : Thread nD τ).loc main_v27_5) = (dats m 0 c).arrAt 12 cfg0.N :=
  ((dats m 0 c).toRForget_arrAt_iff (fgt := forgets0) (w := 12) rfl cfg0.N _).mp ((h c).1 12)

/-- The values after the launch. -/
theorem end_v (r) (h : Pipeline.RDat.FramePost (cfgs 0) (fun c => (dats m 0 c).toRForget forgets0) (V m) r) (c : Dev nD) :
    r.2.mem ((c.tc : Thread nD τ).loc main_v27_8) = (dats m 0 c).arrAt 15 cfg0.N :=
  ((dats m 0 c).toRForget_arrAt_iff (fgt := forgets0) (w := 15) rfl cfg0.N _).mp ((h c).1 15)

set_option maxHeartbeats 2000000 in
/-- Argument 0 after the launch. -/
theorem end_arg0 (r) (h : Pipeline.RDat.FramePost (cfgs 0) (fun c => (dats m 0 c).toRForget forgets0) (V m) r) (c : Dev nD) :
    r.2.mem ((c.tc : Thread nD τ).loc main_arg0) = m ((c.tc : Thread nD τ).loc main_arg0) :=
  (Pipeline.RDat.FramePost.arr_in h c 0 rfl).trans ((A_eq m c 0).trans (V_main_arg0 m c))

set_option maxHeartbeats 2000000 in
/-- Argument 1 after the launch. -/
theorem end_arg1 (r) (h : Pipeline.RDat.FramePost (cfgs 0) (fun c => (dats m 0 c).toRForget forgets0) (V m) r) (c : Dev nD) :
    r.2.mem ((c.tc : Thread nD τ).loc main_arg1) = m ((c.tc : Thread nD τ).loc main_arg1) :=
  ((h c).2 main_arg1 (Pipeline.mem_restRefs_of main_arg1 (by decide) (by decide))).trans (V_main_arg1 m c)

set_option maxHeartbeats 2000000 in
/-- Argument 2 after the launch. -/
theorem end_arg2 (r) (h : Pipeline.RDat.FramePost (cfgs 0) (fun c => (dats m 0 c).toRForget forgets0) (V m) r) (c : Dev nD) :
    r.2.mem ((c.tc : Thread nD τ).loc main_arg2) = m ((c.tc : Thread nD τ).loc main_arg2) :=
  (Pipeline.RDat.FramePost.arr_in h c 2 rfl).trans ((A_eq m c 2).trans (V_main_arg2 m c))

set_option maxHeartbeats 2000000 in
/-- Argument 3 after the launch. -/
theorem end_arg3 (r) (h : Pipeline.RDat.FramePost (cfgs 0) (fun c => (dats m 0 c).toRForget forgets0) (V m) r) (c : Dev nD) :
    r.2.mem ((c.tc : Thread nD τ).loc main_arg3) = m ((c.tc : Thread nD τ).loc main_arg3) :=
  (Pipeline.RDat.FramePost.arr_in h c 4 rfl).trans ((A_eq m c 4).trans (V_main_arg3 m c))

set_option maxHeartbeats 2000000 in
/-- Argument 4 after the launch. -/
theorem end_arg4 (r) (h : Pipeline.RDat.FramePost (cfgs 0) (fun c => (dats m 0 c).toRForget forgets0) (V m) r) (c : Dev nD) :
    r.2.mem ((c.tc : Thread nD τ).loc main_arg4) = m ((c.tc : Thread nD τ).loc main_arg4) :=
  (Pipeline.RDat.FramePost.arr_in h c 5 rfl).trans ((A_eq m c 5).trans (V_main_arg4 m c))

set_option maxHeartbeats 2000000 in
/-- Argument 5 after the launch. -/
theorem end_arg5 (r) (h : Pipeline.RDat.FramePost (cfgs 0) (fun c => (dats m 0 c).toRForget forgets0) (V m) r) (c : Dev nD) :
    r.2.mem ((c.tc : Thread nD τ).loc main_arg5) = m ((c.tc : Thread nD τ).loc main_arg5) :=
  (Pipeline.RDat.FramePost.arr_in h c 6 rfl).trans ((A_eq m c 6).trans (V_main_arg5 m c))

/-- The two results and the arguments at the end. -/
theorem results : θ_run defs (onTc (τ := τ) (main (F := F))) ⟨m, fun _ => 0, ρ⟩ (fun r => (∀ c : Dev nD,
      r.2.mem ((c.tc : Thread nD τ).loc main_v27_5) = (dats m 0 c).arrAt 12 cfg0.N
      ∧ r.2.mem ((c.tc : Thread nD τ).loc main_v27_8) = (dats m 0 c).arrAt 15 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r hr => ⟨fun c => ⟨end_k m r hr.1 c, end_v m r hr.1 c, end_arg0 m r hr.1 c, end_arg1 m r hr.1 c, end_arg2 m r hr.1 c, end_arg3 m r hr.1 c, end_arg4 m r hr.1 c, end_arg5 m r hr.1 c⟩, hr.2⟩) (run_main_quiescent m ρ)

/-- The frame: the arguments and the counters at the end. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h.1 c).2.2, h.2⟩) (results m ρ)

end Cert.Kernel3Ideal.Inp

end
-- ==== Proof.Inp.Bits.lean ====
/- The input projection and its ideal are one program, so the ideal's run is the projection's own as well. -/
module

public import proofs.«01_k».proof.Defs
public import proofs.«01_k».proof.Proof.Gen.Kernel3
public import proofs.«01_k».proof.Proof.Inp.Frame

@[expose] public section

set_option maxRecDepth 100000
set_option maxHeartbeats 4000000

noncomputable section

namespace Cert.Kernel3Ideal.Inp

open Idealize.ShloMosaic Idealize.SL.Sem

attribute [local instance] Cert.Kernel3.Gen.facts Cert.Kernel3Ideal.Gen.facts

variable {F : FTy → Type} [FloatOps F]

/-- The input projection and its ideal have one body. -/
theorem body3_eq : (Cert.Kernel3.defs₀ (F := F)) = Cert.Kernel3Ideal.defs₀ (F := F) := by
  unfold Cert.Kernel3.defs₀ Cert.Kernel3Ideal.defs₀
  refine congrArg Defs.onTc (funext fun l => funext fun _ => ?_)
  match l with
  | ⟨0, _⟩ => rfl

theorem defs3_eq : (Cert.Kernel3.defs (F := F)) = Cert.Kernel3Ideal.defs (F := F) :=
  congrArg (Pipeline.defs (Cert.Kernel3Ideal.pcfgs (F := F))) body3_eq

theorem main3_eq : (Cert.Kernel3.main (F := F)) = Cert.Kernel3Ideal.main (F := F) := rfl

/-- The input projection's frame: the run of its ideal, read over the machine's own values. -/
theorem frame_projection : Cert.quiescent_Kernel3 (hKernel3 := Cert.Kernel3.Gen.facts) := by
  intro m ρ _
  rw [defs3_eq, main3_eq]
  refine (θ_run Cert.Kernel3Ideal.defs (onTc (τ := Cert.Kernel3Ideal.τ) (Cert.Kernel3Ideal.main (F := Bits)))
    ⟨m, fun _ => 0, ρ⟩).mono ?_ (Cert.Kernel3Ideal.Inp.frame (F := Bits) m ρ)
  rintro ⟨_, _⟩ ⟨h, hs⟩
  exact ⟨fun c => ⟨(h c).1, (h c).2.1, (h c).2.2.1, (h c).2.2.2.1, (h c).2.2.2.2.1, (h c).2.2.2.2.2⟩, hs⟩

end Cert.Kernel3Ideal.Inp

end
-- ==== Proof.Mlp.Spec.lean ====
/- What one row of the layer's closing stage is, in extended reals: the two mixers' outputs side by side through the
   output projection, the residual, the squared-ReLU feed-forward part in four groups of 1024 hidden channels, and the
   last root-mean-square norm. -/
module

public import Idealize.ShloMosaic.Lib.Pointwise

@[expose] public section

noncomputable section

namespace Cert.Mlp

open Idealize.ShloMosaic

/-- Root-mean-square norm of the row `f` with gain `g`; `w` is the float word of the row's length. -/
def rms {n : ℕ} (w : BitVec 32) (f g : Fin n → EReal) (c : Fin n) : EReal :=
  f c * Ideal.rsqrt (Ideal.div (∑ k, f k * f k) (Ideal.ofBits .f32 w) + Ideal.ofBits .f32 0x358637BD#32) * g c

/-- The three patterns' outputs `o1 o2 o3` weighted by `2 ^ (a - max a)`, as the kernel does it: the weighted sum
    first, one division after. -/
def mixK (a1 a2 a3 o1 o2 o3 : EReal) : EReal :=
  Ideal.div
    (Ideal.exp2 (a1 - max (max a1 a2) a3) * o1 + Ideal.exp2 (a2 - max (max a1 a2) a3) * o2 + Ideal.exp2 (a3 - max (max a1 a2) a3) * o3)
    (Ideal.exp2 (a1 - max (max a1 a2) a3) + Ideal.exp2 (a2 - max (max a1 a2) a3) + Ideal.exp2 (a3 - max (max a1 a2) a3))

/-- Row `k` of the projection's upper half. -/
abbrev lo (k : Fin 512) : Fin 1024 := ⟨k.val, by omega⟩
/-- Row `k` of its lower half. -/
abbrev hi (k : Fin 512) : Fin 1024 := ⟨512 + k.val, by omega⟩

/-- The residual stream after the output projection: `mr` the recurrent mixer's row, `Y` the attention mixer's. -/
def resid (Y mr ga : Fin 512 → EReal) (wo : Fin 1024 → Fin 1024 → EReal) (x : Fin 1024 → EReal) (j : Fin 1024) : EReal :=
  (∑ k, mr k * wo (lo k) j) + (∑ k, rms 0x44000000#32 Y ga k * wo (hi k) j) + x j

/-- The hidden channel `k` of group `t`. -/
abbrev hid (t : Fin 4) (k : Fin 1024) : Fin 4096 := ⟨1024 * t.val + k.val, by omega⟩

/-- The square of the positive part of a hidden channel. -/
def act (h : Fin 1024 → EReal) (up : Fin 1024 → Fin 4096 → EReal) (u : Fin 4096) : EReal :=
  max (∑ i, h i * up i u) 0 * max (∑ i, h i * up i u) 0

/-- What the hidden channels of group `t` give output channel `j`. -/
def group (h : Fin 1024 → EReal) (up : Fin 1024 → Fin 4096 → EReal) (dn : Fin 4096 → Fin 1024 → EReal) (t : Fin 4) (j : Fin 1024) : EReal :=
  ∑ k, act h up (hid t k) * dn (hid t k) j

/-- The row after the feed-forward part and its residual. -/
def after (x1 g : Fin 1024 → EReal) (up : Fin 1024 → Fin 4096 → EReal) (dn : Fin 4096 → Fin 1024 → EReal) (j : Fin 1024) : EReal :=
  group (rms 0x44800000#32 x1 g) up dn 0 j + group (rms 0x44800000#32 x1 g) up dn 1 j + group (rms 0x44800000#32 x1 g) up dn 2 j
    + group (rms 0x44800000#32 x1 g) up dn 3 j + x1 j

/-- The whole row: the residual stream, the feed-forward part, the last norm. -/
def row (Y mr ga : Fin 512 → EReal) (wo : Fin 1024 → Fin 1024 → EReal) (x g gf : Fin 1024 → EReal)
    (up : Fin 1024 → Fin 4096 → EReal) (dn : Fin 4096 → Fin 1024 → EReal) : Fin 1024 → EReal :=
  rms 0x44800000#32 (after (resid Y mr ga wo x) g up dn) gf

end Cert.Mlp

end
-- ==== Proof.Inp.Value.lean ====
/- The first dilation's keys and values in the arguments, by the call and by its reference: the normed row of each place times
   the weights' key columns and value columns. -/
module

public import proofs.«01_k».proof.Proof.Inp.Frame
public import proofs.«01_k».proof.Proof.Gen.Reference3Ideal.Read
public import proofs.«01_k».proof.Proof.Mlp.Spec

@[expose] public section

noncomputable section

namespace Cert.Kernel3Ideal.Inp

open Cert.Kernel3Ideal Cert.Kernel3Ideal.Gen
open Idealize.ShloMosaic Idealize.ShloMosaic.TcCoe Idealize.SL.Sem
open Cert.Mlp (rms)

/-- Column `j` of the key columns, and of the value columns. -/
abbrev kc (j : Fin 512) : Fin 2560 := ⟨1536 + j.val, by omega⟩
abbrev vc (j : Fin 512) : Fin 2560 := ⟨2048 + j.val, by omega⟩

/-- A normed row times a column of the weights. -/
def proj (x g w : Fin 1024 → EReal) : EReal := ∑ k, rms 0x44800000#32 x g k * w k

section Block
variable (x0 : Vec Ideal S1x1024x1024 .f32) (x1 : Vec Ideal S1x1024 .f32) (x2 : Vec Ideal S1024x2560 .f32) (r : Fin 1024)

theorem hval_at (k : Fin 1024) : hval (F := Ideal) x0 x1 (ix2 r k) = rms 0x44800000#32 (fun k => x0 (ix3 0 r k)) (fun k => x1 (ix2 0 k)) k := by
  unfold hval
  pointwise [k0_pay8, k0_pay7]
  rfl

theorem wval_at (k : Fin 1024) (j : Fin 2560) : wval (F := Ideal) x2 (ix2 k j) = x2 (ix2 k j) := by
  unfold wval
  pointwise [k0_pay6]

theorem kcols_at (w : Vec Ideal S1024x2560 .bf16) (k : Fin 1024) (j : Fin 512) : kcols (F := Ideal) w (ix2 k j) = w (ix2 k (kc j)) := by
  unfold kcols
  rw [View.ld_unit]
  exact congrArg w (funext fun a => Fin.ext (match a with
    | ⟨0, _⟩ => (by show 0 + k.val = k.val; omega)
    | ⟨1, _⟩ => rfl))

theorem vcols_at (w : Vec Ideal S1024x2560 .bf16) (k : Fin 1024) (j : Fin 512) : vcols (F := Ideal) w (ix2 k j) = w (ix2 k (vc j)) := by
  unfold vcols
  rw [View.ld_unit]
  exact congrArg w (funext fun a => Fin.ext (match a with
    | ⟨0, _⟩ => (by show 0 + k.val = k.val; omega)
    | ⟨1, _⟩ => rfl))

/-- The matrix product of either slice, as the window holds it. -/
theorem pay109_at (h : Vec Ideal S1024x1024 .bf16) (w : Vec Ideal S1024x512 .bf16) (j : Fin 512) :
    k0_pay109 (F := Ideal) h w (ix5 0 0 0 r j) = ∑ k, h (ix2 r k) * w (ix2 k j) := by
  pointwise [k0_pay109, k0_pay108]

theorem kOut_at (j : Fin 512) : kOut (F := Ideal) x0 x1 (wval x2) (ix5 0 0 0 r j)
    = proj (fun k => x0 (ix3 0 r k)) (fun k => x1 (ix2 0 k)) (fun k => x2 (ix2 k (kc j))) := by
  unfold kOut proj
  rw [pay109_at]
  simp only [hval_at, kcols_at, wval_at]

theorem vOut_at (j : Fin 512) : vOut (F := Ideal) x0 x1 (wval x2) (ix5 0 0 0 r j)
    = proj (fun k => x0 (ix3 0 r k)) (fun k => x1 (ix2 0 k)) (fun k => x2 (ix2 k (vc j))) := by
  unfold vOut proj
  rw [show ∀ h w, k0_pay207 (F := Ideal) (k0_pay206 h w) = k0_pay109 h w from fun _ _ => rfl, pay109_at]
  simp only [hval_at, vcols_at, wval_at]

end Block

section Reference
open Cert.Reference3Ideal.Read

variable (x0 : (⟨Cert.Reference3Ideal.S2x8192x1024, .f32⟩ : BufTy).Contents (Elt Ideal)) (x1 : (⟨Cert.Reference3Ideal.S1024, .f32⟩ : BufTy).Contents (Elt Ideal))
  (x2 : (⟨Cert.Reference3Ideal.S1024x2560, .f32⟩ : BufTy).Contents (Elt Ideal)) (b : Fin 2) (p : Fin 8192)

theorem v12_at (k : Fin 1024) : val_main_v12 (F := Ideal) x0 x1 (ix3 b p k) = rms 0x44800000#32 (fun k => x0 (ix3 b p k)) (fun k => x1 (ix1 k)) k := by
  pointwise [val_main_v12, val_main_v11, val_main_v10, val_main_v9, val_main_v8, val_main_v7, val_main_v6, val_main_v5, val_main_v4, val_main_v3, val_main_v2,
    val_main_v1, val_main_v0, val_main_cst, val_main_cst_0, val_main_cst_1]
  rfl

theorem v13_at (j : Fin 2560) : val_main_v13 (F := Ideal) x0 x1 x2 (ix3 b p j) = proj (fun k => x0 (ix3 b p k)) (fun k => x1 (ix1 k)) (fun k => x2 (ix2 k j)) := by
  unfold val_main_v13 proj
  have e := fun k => v12_at x0 x1 b p k
  revert e
  generalize val_main_v12 x0 x1 = w
  intro e
  pointwise
  simp only [e]

theorem v20_at (j : Fin 512) : val_main_v20 (F := Ideal) x0 x1 x2 (ix5 b 0 0 p j) = proj (fun k => x0 (ix3 b p k)) (fun k => x1 (ix1 k)) (fun k => x2 (ix2 k (kc j))) := by
  rw [← v13_at]
  unfold val_main_v20 val_main_v19 val_main_v17
  generalize val_main_v13 x0 x1 x2 = w
  pointwise

theorem v22_at (j : Fin 512) : val_main_v22 (F := Ideal) x0 x1 x2 (ix5 b 0 0 p j) = proj (fun k => x0 (ix3 b p k)) (fun k => x1 (ix1 k)) (fun k => x2 (ix2 k (vc j))) := by
  rw [← v13_at]
  unfold val_main_v22 val_main_v21 val_main_v18
  generalize val_main_v13 x0 x1 x2 = w
  pointwise

end Reference

end Cert.Kernel3Ideal.Inp

end
-- ==== Proof.Inp.Claim.lean ====
/- The input projection and its reference leave equal keys and values. -/
module

public import proofs.«01_k».proof.Defs
public import proofs.«01_k».proof.Proof.Inp.Value
public import proofs.«01_k».proof.Proof.Gen.Reference3Ideal.Run

@[expose] public section

noncomputable section

namespace Cert.Kernel3Ideal.Inp

open Cert.Kernel3Ideal Cert.Kernel3Ideal.Gen
open Idealize.ShloMosaic Idealize.ShloMosaic.TcCoe Idealize.SL.Sem

variable (m : (ℓ : Loc nD τ sig) → Buf (Elt Ideal) ℓ) (c : Dev nD)

/-- Only the first host operation writes the gains' row. -/
theorem v0_first : V m c main_v0 = StableHlo.after [StableHlo.reshape main_arg1 main_v0 (rfl : (.f32 : EltTy) = .f32) shapeCasts_S1024_S1x1024] (fun b => m (c, b)) main_v0 := by
  refine (show V m c main_v0 = StableHlo.after (List.flatten [hostOps0.tail, hostOps0_1, hostOps0_2, hostOps0_3, hostOps0_4, hostOps0_5, hostOps0_6, hostOps0_7, hostOps0_8])
    (StableHlo.after [StableHlo.reshape main_arg1 main_v0 (rfl : (.f32 : EltTy) = .f32) shapeCasts_S1024_S1x1024] (fun b => m (c, b))) main_v0 from rfl).trans ?_
  refine StableHlo.after_of_forall_not_mem (b := Proc.devRef .tc main_v0) _ _ (List.forall_iff_forall_mem.mp ?_)
  simp only [hostOps0, hostOps0_1, hostOps0_2, hostOps0_3, hostOps0_4, hostOps0_5, hostOps0_6, hostOps0_7, hostOps0_8, List.tail_cons, List.flatten_cons, List.flatten_nil, List.append_nil,
    List.cons_append, List.nil_append, List.Forall, StableHlo.nullary_writes, StableHlo.unary_writes, StableHlo.binary_writes, StableHlo.ternary_writes, StableHlo.reshape_writes, Finset.mem_singleton]
  repeat' apply And.intro
  all_goals exact StableHlo.devRef_ne_of_ne (by decide)

/-- The gains' row at an entry. -/
theorem v0_at (k : Fin 1024) :
    (V m c main_v0 : S1x1024.Idx → EReal) (ix2 0 k) = (m ((c : Thread nD τ).loc main_arg1) : S1024.Idx → EReal) (ix1 k) := by
  rw [v0_first]
  entry_read
  pointwise

/-- The batch entry of a grid point. -/
def gb (t : Fin cfg0.N) : Fin 2 := ⟨t.val / 8, by have : t.val < 16 := t.isLt; omega⟩
/-- The place in the sequence of a row of a grid point's block. -/
def gp (t : Fin cfg0.N) (r : Fin 1024) : Fin 8192 := ⟨t.val % 8 * 1024 + r.val, by omega⟩

theorem idx0 : ∀ t : Fin cfg0.N, win0_0.index t (0 : Fin 3) = t.val / 8 ∧ win0_0.index t (1 : Fin 3) = t.val % 8 ∧ win0_0.index t (2 : Fin 3) = 0 :=
  (by decide +kernel : ∀ t : Fin grid0.N, _)

theorem emb0 (t : Fin cfg0.N) (r k : Fin 1024) : ((cfg0.win 0).blk t).view.emb (ix3 0 r k) = ix3 (gb t) (gp t r) k := by
  obtain ⟨e0, e1, e2⟩ := idx0 t
  funext a; apply Fin.ext
  match a with
  | ⟨0, _⟩ => show win0_0.index t (0 : Fin 3) * 1 + 1 * 0 = t.val / 8; omega
  | ⟨1, _⟩ => show win0_0.index t (1 : Fin 3) * 1024 + 1 * r.val = t.val % 8 * 1024 + r.val; omega
  | ⟨2, _⟩ => show win0_0.index t (2 : Fin 3) * 1024 + 1 * k.val = k.val; omega

theorem rd0 (t : Fin cfg0.N) (A : S2x8192x1024.Idx → EReal) (i : S1x1024x1024.Idx) :
    (((cfg0.win 0).blk t).view.read (Elt Ideal) A : S1x1024x1024.Idx → EReal) i = A (((cfg0.win 0).blk t).view.emb i) := rfl

theorem w0_at (t : Fin cfg0.N) (r k : Fin 1024) :
    (iblk m c 0 t : S1x1024x1024.Idx → EReal) (ix3 0 r k) = (m ((c : Thread nD τ).loc main_arg0) : S2x8192x1024.Idx → EReal) (ix3 (gb t) (gp t r) k) :=
  (rd0 t (V m c main_arg0) _).trans ((congrArg (V m c main_arg0) (emb0 t r k)).trans (congrFun (V_main_arg0 m c) _))

theorem idx1 : ∀ t : Fin cfg0.N, win0_1.index t (0 : Fin 2) = 0 ∧ win0_1.index t (1 : Fin 2) = 0 :=
  (by decide +kernel : ∀ t : Fin grid0.N, _)

theorem emb1 (t : Fin cfg0.N) (k : Fin 1024) : ((cfg0.win 1).blk t).view.emb (ix2 0 k) = ix2 0 k := by
  obtain ⟨e0, e1⟩ := idx1 t
  funext a; apply Fin.ext
  match a with
  | ⟨0, _⟩ => show win0_1.index t (0 : Fin 2) * 1 + 1 * 0 = 0; omega
  | ⟨1, _⟩ => show win0_1.index t (1 : Fin 2) * 1024 + 1 * k.val = k.val; omega

theorem rd1 (t : Fin cfg0.N) (A : S1x1024.Idx → EReal) (i : S1x1024.Idx) :
    (((cfg0.win 1).blk t).view.read (Elt Ideal) A : S1x1024.Idx → EReal) i = A (((cfg0.win 1).blk t).view.emb i) := rfl

theorem w1_at (t : Fin cfg0.N) (k : Fin 1024) :
    (iblk m c 1 t : S1x1024.Idx → EReal) (ix2 0 k) = (m ((c : Thread nD τ).loc main_arg1) : S1024.Idx → EReal) (ix1 k) :=
  (rd1 t (V m c main_v0) _).trans ((congrArg (V m c main_v0) (emb1 t k)).trans (v0_at m c k))

theorem w2_at (t : Fin cfg0.N) (k : Fin 1024) (j : Fin 2560) :
    (iblk m c 2 t : S1024x2560.Idx → EReal) (ix2 k j) = (m ((c : Thread nD τ).loc main_arg2) : S1024x2560.Idx → EReal) (ix2 k j) :=
  (congrFun (rd2 (F := Ideal) t (V m c main_arg2)) _).trans (congrFun (V_main_arg2 m c) _)

/-- The reference's keys and values, of the kernel's arguments. -/
def K : S2x1x1x8192x512.Idx → EReal :=
  Cert.Reference3Ideal.Read.val_main_v20 (F := Ideal) (m ((c : Thread nD τ).loc main_arg0)) (m ((c : Thread nD τ).loc main_arg1)) (m ((c : Thread nD τ).loc main_arg2))
def W : S2x1x1x8192x512.Idx → EReal :=
  Cert.Reference3Ideal.Read.val_main_v22 (F := Ideal) (m ((c : Thread nD τ).loc main_arg0)) (m ((c : Thread nD τ).loc main_arg1)) (m ((c : Thread nD τ).loc main_arg2))

/-- A row of a grid point's block is the reference's row, for the keys and for the values. -/
theorem k_at (t : Fin cfg0.N) (r : Fin 1024) (j : Fin 512) :
    kOut (F := Ideal) (iblk m c 0 t) (iblk m c 1 t) (wts m c t) (ix5 0 0 0 r j) = K m c (ix5 (gb t) 0 0 (gp t r) j) := by
  unfold K wts
  rw [v20_at]
  refine (kOut_at _ _ _ r j).trans ?_
  rw [funext (w0_at m c t r), funext (w1_at m c t), funext fun k => w2_at m c t k (kc j)]

theorem v_at (t : Fin cfg0.N) (r : Fin 1024) (j : Fin 512) :
    vOut (F := Ideal) (iblk m c 0 t) (iblk m c 1 t) (wts m c t) (ix5 0 0 0 r j) = W m c (ix5 (gb t) 0 0 (gp t r) j) := by
  unfold W wts
  rw [v22_at]
  refine (vOut_at _ _ _ r j).trans ?_
  rw [funext (w0_at m c t r), funext (w1_at m c t), funext fun k => w2_at m c t k (vc j)]

/-- Every place is some row of some grid point's block. -/
theorem place (i : S2x1x1x8192x512.Idx) : ∃ (t : Fin cfg0.N) (r : Fin 1024) (j : Fin 512), i = ix5 (gb t) 0 0 (gp t r) j := by
  have h0 : (i 0).val < 2 := (i 0).isLt
  have h3 : (i 3).val < 8192 := (i 3).isLt
  have ht : (i 0).val * 8 + (i 3).val / 1024 < 16 := by omega
  refine ⟨⟨(i 0).val * 8 + (i 3).val / 1024, ht⟩, ⟨(i 3).val % 1024, by omega⟩, i 4, ?_⟩
  funext a; apply Fin.ext
  match a with
  | ⟨0, _⟩ => show (i 0).val = ((i 0).val * 8 + (i 3).val / 1024) / 8; omega
  | ⟨1, _⟩ => show (i 1).val = 0; have : (i 1).val < 1 := (i 1).isLt; omega
  | ⟨2, _⟩ => show (i 2).val = 0; have : (i 2).val < 1 := (i 2).isLt; omega
  | ⟨3, _⟩ => show (i 3).val = ((i 0).val * 8 + (i 3).val / 1024) % 8 * 1024 + (i 3).val % 1024; omega
  | ⟨4, _⟩ => rfl

/-- An index of a block is a row and a column. -/
theorem block_idx (y : S1x1x1x1024x512.Idx) : ∃ (r : Fin 1024) (j : Fin 512), y = ix5 0 0 0 r j :=
  ⟨y 3, y 4, funext fun a => by
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
    | ⟨4, _⟩ => rfl⟩

theorem idx12 : ∀ t : Fin cfg0.N, win0_12.index t (0 : Fin 5) = t.val / 8 ∧ win0_12.index t (1 : Fin 5) = 0 ∧ win0_12.index t (2 : Fin 5) = 0 ∧ win0_12.index t (3 : Fin 5) = t.val % 8 ∧ win0_12.index t (4 : Fin 5) = 0 :=
  (by decide +kernel : ∀ t : Fin grid0.N, _)

theorem emb12 (t : Fin cfg0.N) (r : Fin 1024) (j : Fin 512) : ((cfg0.win 12).blk t).view.emb (ix5 0 0 0 r j) = ix5 (gb t) 0 0 (gp t r) j := by
  obtain ⟨e0, e1, e2, e3, e4⟩ := idx12 t
  funext a; apply Fin.ext
  match a with
  | ⟨0, _⟩ => show win0_12.index t (0 : Fin 5) * 1 + 1 * 0 = t.val / 8; omega
  | ⟨1, _⟩ => show win0_12.index t (1 : Fin 5) * 1 + 1 * 0 = 0; omega
  | ⟨2, _⟩ => show win0_12.index t (2 : Fin 5) * 1 + 1 * 0 = 0; omega
  | ⟨3, _⟩ => show win0_12.index t (3 : Fin 5) * 1024 + 1 * r.val = t.val % 8 * 1024 + r.val; omega
  | ⟨4, _⟩ => show win0_12.index t (4 : Fin 5) * 512 + 1 * j.val = j.val; omega

theorem flushed12 (t : Fin cfg0.N) : (dats m 0 c).flushed 12 t = ((cfg0.win 12).blk t).view.read (Elt Ideal) (K m c) := by
  show (cfg0.win 12).cut (grid0.coords t) ((dats m 0 c).after 12 t) = _
  rw [after0_12]
  funext y
  obtain ⟨r, j, rfl⟩ := block_idx y
  show _ = K m c (((cfg0.win 12).blk t).view.emb (ix5 0 0 0 r j))
  rw [emb12, ← k_at]
  rfl

theorem mem12 (t : Fin cfg0.N) (r : Fin 1024) (j : Fin 512) : (ix5 (gb t) 0 0 (gp t r) j : S2x1x1x8192x512.Idx) ∈ ((cfg0.win 12).blk t).view.set := by
  have h := ((cfg0.win 12).blk t).view.emb_mem_set (ix5 0 0 0 r j : S1x1x1x1024x512.Idx)
  exact (emb12 t r j) ▸ h

theorem final12 : (dats m 0 c).arrAt 12 cfg0.N = K m c :=
  (dats m 0 c).arrAt_eq_of_cover 12 (K m c) (fun t _ => flushed12 m c t) fun i => by
    obtain ⟨t, r, j, e⟩ := place i
    exact ⟨t, flush0_12 t, Set.mem_of_eq_of_mem (s := {y : S2x1x1x8192x512.Idx | y ∈ ((cfg0.win 12).blk t).view.set}) e (mem12 t r j)⟩

theorem idx15 : ∀ t : Fin cfg0.N, win0_15.index t (0 : Fin 5) = t.val / 8 ∧ win0_15.index t (1 : Fin 5) = 0 ∧ win0_15.index t (2 : Fin 5) = 0 ∧ win0_15.index t (3 : Fin 5) = t.val % 8 ∧ win0_15.index t (4 : Fin 5) = 0 :=
  (by decide +kernel : ∀ t : Fin grid0.N, _)

theorem emb15 (t : Fin cfg0.N) (r : Fin 1024) (j : Fin 512) : ((cfg0.win 15).blk t).view.emb (ix5 0 0 0 r j) = ix5 (gb t) 0 0 (gp t r) j := by
  obtain ⟨e0, e1, e2, e3, e4⟩ := idx15 t
  funext a; apply Fin.ext
  match a with
  | ⟨0, _⟩ => show win0_15.index t (0 : Fin 5) * 1 + 1 * 0 = t.val / 8; omega
  | ⟨1, _⟩ => show win0_15.index t (1 : Fin 5) * 1 + 1 * 0 = 0; omega
  | ⟨2, _⟩ => show win0_15.index t (2 : Fin 5) * 1 + 1 * 0 = 0; omega
  | ⟨3, _⟩ => show win0_15.index t (3 : Fin 5) * 1024 + 1 * r.val = t.val % 8 * 1024 + r.val; omega
  | ⟨4, _⟩ => show win0_15.index t (4 : Fin 5) * 512 + 1 * j.val = j.val; omega

theorem flushed15 (t : Fin cfg0.N) : (dats m 0 c).flushed 15 t = ((cfg0.win 15).blk t).view.read (Elt Ideal) (W m c) := by
  show (cfg0.win 15).cut (grid0.coords t) ((dats m 0 c).after 15 t) = _
  rw [after0_15]
  funext y
  obtain ⟨r, j, rfl⟩ := block_idx y
  show _ = W m c (((cfg0.win 15).blk t).view.emb (ix5 0 0 0 r j))
  rw [emb15, ← v_at]
  rfl

theorem mem15 (t : Fin cfg0.N) (r : Fin 1024) (j : Fin 512) : (ix5 (gb t) 0 0 (gp t r) j : S2x1x1x8192x512.Idx) ∈ ((cfg0.win 15).blk t).view.set := by
  have h := ((cfg0.win 15).blk t).view.emb_mem_set (ix5 0 0 0 r j : S1x1x1x1024x512.Idx)
  exact (emb15 t r j) ▸ h

theorem final15 : (dats m 0 c).arrAt 15 cfg0.N = W m c :=
  (dats m 0 c).arrAt_eq_of_cover 15 (W m c) (fun t _ => flushed15 m c t) fun i => by
    obtain ⟨t, r, j, e⟩ := place i
    exact ⟨t, flush0_15 t, Set.mem_of_eq_of_mem (s := {y : S2x1x1x8192x512.Idx | y ∈ ((cfg0.win 15).blk t).view.set}) e (mem15 t r j)⟩

/-- The call and its reference leave equal keys and values. -/
theorem algebraic : Cert.algebraic_Kernel3Ideal_Reference3Ideal (hKernel3Ideal := Cert.Kernel3Ideal.Gen.facts) (hReference3Ideal := Cert.Reference3Ideal.Gen.facts) := by
  intro m g m' g' _ hargs
  refine ⟨fun c => K m c, fun c => W m c, ?_, ?_⟩
  · exact (θ_run Cert.Kernel3Ideal.defs _ _).mono (fun r h c => ⟨(h.1 c).1.trans (final12 m c), (h.1 c).2.1.trans (final15 m c), (h.1 c).2.2⟩) (results m g)
  · refine (θ_run Cert.Reference3Ideal.defs _ _).mono (fun r h c => ⟨(h c).1.trans ?_, (h c).2.1.trans ?_, (h c).2.2⟩) (Cert.Reference3Ideal.Value.run m' g')
    · rw [Cert.Reference3Ideal.Read.val_main_v20_eq]
      obtain ⟨a0, a1, a2, -, -, -⟩ := hargs c
      show _ = K m c
      unfold K
      rw [← a0, ← a1, ← a2]
    · rw [Cert.Reference3Ideal.Read.val_main_v22_eq]
      obtain ⟨a0, a1, a2, -, -, -⟩ := hargs c
      show _ = W m c
      unfold W
      rw [← a0, ← a1, ← a2]

end Cert.Kernel3Ideal.Inp

end
-- ==== Proof.Att.RunA.lean ====
/- The attention kernel's body at one grid point, run once. The rows the body reads back from its two scratch
   buffers start where the tile's number says; `off1_closed` gives the run that start in a form it can carry. What
   the two outputs and the two scratch buffers hold afterwards is not named: the frame needs none of it. -/
module

public import proofs.«01_k».proof.Proof.Gen.KernelIdeal.Frame
public import proofs.«01_k».proof.Proof.Gen.KernelIdeal.Skeleton

@[expose] public section

-- membership in a rectangle of production extents (`View.cover_of_tiled`): the elaborator's structural look
-- recurses once per coordinate of the long axes
set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Row at which the tile's window starts in the scratch. -/
def st (i : grid0.Coords) (c : BitVec 32) : Nat := k0_off1 i c 1

theorem off1_st (i : grid0.Coords) (c : BitVec 32) : k0_off1 i c = ![0, st i c, 0] := by
  funext a; fin_cases a <;> rfl

instance off1_closed (i : grid0.Coords) (c : BitVec 32) : ClosedOff (k0_off1 i c) := ⟨![0, st i c, 0], off1_st i c⟩

-- (the run's proof term is large: checking it walks past the default budget)
set_option maxHeartbeats 4536000 in
/-- The body's triple: on whole staging memrefs — the inputs' at their contents,
    the FORGOTTEN outputs' (8, 9) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg3 : Memref sig .tc .vmem S1x1x1x2048x512 .bf16) (harg3 : arg3.IsWhole) (arg4 : Memref sig .tc .vmem S1x1x1x64x512 .bf16) (harg4 : arg4.IsWhole) (arg5 : Memref sig .tc .vmem S1x1x1x2048x512 .bf16) (harg5 : arg5.IsWhole) (arg6 : Memref sig .tc .vmem S1x1x1x64x512 .bf16) (harg6 : arg6.IsWhole) (arg7 : Memref sig .tc .vmem S1x1x1x64x512 .bf16) (harg7 : arg7.IsWhole) (arg8 : Memref sig .tc .vmem S1x1x1x2048x512 .bf16) (harg8 : arg8.IsWhole) (arg9 : Memref sig .tc .vmem S1x1x1x64x512 .bf16) (harg9 : arg9.IsWhole) (arg10 : Memref sig .tc .vmem S1x3x8x128x256 .f32) (harg10 : arg10.IsWhole) (arg11 : Memref sig .tc .vmem S1x1x4x2048x128 .f32) (harg11 : arg11.IsWhole) (arg12 : Memref sig .tc .vmem S1x1x4x2048x128 .f32) (harg12 : arg12.IsWhole) (arg13 : Memref sig .tc .vmem S1x2176x512 .bf16) (harg13 : arg13.IsWhole) (arg14 : Memref sig .tc .vmem S1x2176x512 .bf16) (harg14 : arg14.IsWhole)
    (x0 : Vec F S1x1x1x2048x512 .bf16) (x1 : Vec F S1x1x1x64x512 .bf16) (x2 : Vec F S1x1x1x2048x512 .bf16) (x3 : Vec F S1x1x1x64x512 .bf16) (x4 : Vec F S1x1x1x64x512 .bf16) (x5 : Vec F S1x1x1x2048x512 .bf16) (x6 : Vec F S1x1x1x64x512 .bf16) (x7 : Vec F S1x3x8x128x256 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_attn_d1 i arg3 harg3 arg4 harg4 arg5 harg5 arg6 harg6 arg7 harg7 arg8 harg8 arg9 harg9 arg10 harg10 arg11 harg11 arg12 harg12 arg13 harg13 arg14 harg14) K := by
    intro E K
    simp only [cc0_attn_d1_eq_skeleton]; unfold cc0_attn_d1_skel
    simp only [k0_part93_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    iexists _, _; isplitr; swap; · iexact HS1
    ipureintro; rfl

end Cert.KernelIdeal.Att

end
-- ==== Proof.Att.Frame.lean ====
/- The attention kernel's frame: from the body's run at one grid point (`kernelRun0_A`) to the whole launch. Every
   grid point's body is met at the point's blocks, the outputs' contents left unnamed, and the launch's run follows. -/
module

public import proofs.«01_k».proof.Proof.Att.RunA
public import Idealize.ShloMosaic.Lib.Claim

@[expose] public section

-- membership in a rectangle of production extents (`View.cover_of_tiled`): the elaborator's structural look
-- recurses once per coordinate of the long axes
set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The memrefs the body is called with -/

/-- The staging memref of each window at point `t`. -/
abbrev ms0_0 (t : Fin cfg0.N) : Memref sig .tc .vmem S1x1x1x2048x512 .bf16 := win0_0.stage (cfg0.slots t 0)
abbrev ms0_1 (t : Fin cfg0.N) : Memref sig .tc .vmem S1x1x1x64x512 .bf16 := win0_1.stage (cfg0.slots t 1)
abbrev ms0_2 (t : Fin cfg0.N) : Memref sig .tc .vmem S1x1x1x2048x512 .bf16 := win0_2.stage (cfg0.slots t 2)
abbrev ms0_3 (t : Fin cfg0.N) : Memref sig .tc .vmem S1x1x1x64x512 .bf16 := win0_3.stage (cfg0.slots t 3)
abbrev ms0_4 (t : Fin cfg0.N) : Memref sig .tc .vmem S1x1x1x64x512 .bf16 := win0_4.stage (cfg0.slots t 4)
abbrev ms0_5 (t : Fin cfg0.N) : Memref sig .tc .vmem S1x1x1x2048x512 .bf16 := win0_5.stage (cfg0.slots t 5)
abbrev ms0_6 (t : Fin cfg0.N) : Memref sig .tc .vmem S1x1x1x64x512 .bf16 := win0_6.stage (cfg0.slots t 6)
abbrev ms0_7 (t : Fin cfg0.N) : Memref sig .tc .vmem S1x3x8x128x256 .f32 := win0_7.stage (cfg0.slots t 7)
abbrev ms0_8 (t : Fin cfg0.N) : Memref sig .tc .vmem S1x1x4x2048x128 .f32 := win0_8.stage (cfg0.slots t 8)
abbrev ms0_9 (t : Fin cfg0.N) : Memref sig .tc .vmem S1x1x4x2048x128 .f32 := win0_9.stage (cfg0.slots t 9)

/-- The two scratch buffers, whole. -/
abbrev scM0_0 : Memref sig .tc .vmem S1x2176x512 .bf16 := Memref.whole cc0_scratch0
abbrev scM0_1 : Memref sig .tc .vmem S1x2176x512 .bf16 := Memref.whole cc0_scratch1

/-- The invariant between points: both scratch buffers owned at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## The pipeline's proof data -/

/-- The output windows this certificate FORGETS (8, 9): nothing reads what the kernel leaves in them, so nothing
    of it is named (Lib/Pipeline/Dat.lean `Dat.toRForget`). -/
def forgets0 : Fin 10 → Bool := fun w => w.val == 8 || w.val == 9

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (∃ d, owns (c : Thread nD τ) (ms0_8 t) fullShare d)
    ∗ (∃ d, owns (c : Thread nD τ) (ms0_9 t) fullShare d))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_A c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [HS0]; · iexact HS0
  isplitl [HS1]; · iexact HS1
  iintro ⟨H0, H1, H2, H3, H4, H5, H6, H7, H8, H9, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 8, 9) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 0 rfl).trans ((A_eq m c 0).trans (V_main_arg0 m c)),
      (Pipeline.RDat.FramePost.arr_in h c 3 rfl).trans ((A_eq m c 3).trans (V_main_arg1 m c)),
      (Pipeline.RDat.FramePost.arr_in h c 6 rfl).trans ((A_eq m c 6).trans (V_main_arg2 m c)),
      (Pipeline.RDat.FramePost.arr_in h c 7 rfl).trans ((A_eq m c 7).trans (V_main_arg3 m c))⟩) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Att

end
-- ==== Proof.Mlp.Soft.lean ====
/- Mixing three results by the softmax of their logarithmic weights: one form divides each weight first and takes
   base e; the other divides the sum last and takes base 2. -/
module

public import proofs.«01_k».proof.Proof.Mlp.Spec

@[expose] public section

noncomputable section

namespace Cert.Mlp

open Idealize.ShloMosaic

/-- The greatest of three logarithmic weights. -/
def top3 (l1 l2 l3 : EReal) : EReal := max (max l1 l2) l3

/-- Three results mixed by weights in base e, each weight divided first. -/
def mixE (l1 l2 l3 o1 o2 o3 : EReal) : EReal :=
  Ideal.div (Ideal.exp (l1 - top3 l1 l2 l3)) (Ideal.exp (l1 - top3 l1 l2 l3) + Ideal.exp (l2 - top3 l1 l2 l3) + Ideal.exp (l3 - top3 l1 l2 l3)) * o1
  + Ideal.div (Ideal.exp (l2 - top3 l1 l2 l3)) (Ideal.exp (l1 - top3 l1 l2 l3) + Ideal.exp (l2 - top3 l1 l2 l3) + Ideal.exp (l3 - top3 l1 l2 l3)) * o2
  + Ideal.div (Ideal.exp (l3 - top3 l1 l2 l3)) (Ideal.exp (l1 - top3 l1 l2 l3) + Ideal.exp (l2 - top3 l1 l2 l3) + Ideal.exp (l3 - top3 l1 l2 l3)) * o3

/-- The host's logarithm of two. -/
def ln2 : EReal := Ideal.log (Ideal.ofBits .f32 0x40000000#32)

theorem ofBits_two : Ideal.ofBits .f32 0x40000000#32 = ((2 : ℝ) : EReal) := by
  simp [Ideal.ofBits, Ideal.ieee, -EReal.coe_mul]; norm_num

theorem ofBits_bot : Ideal.ofBits .f32 0xFF800000#32 = ⊥ := by
  simp [Ideal.ofBits, Ideal.ieee]

theorem ofBits_top : Ideal.ofBits .f32 0x7F800000#32 = ⊤ := by
  simp [Ideal.ofBits, Ideal.ieee]

theorem ln2_eq : ln2 = ((Real.log 2 : ℝ) : EReal) := by
  unfold ln2
  rw [ofBits_two, Ideal.log_coe, if_neg (by norm_num)]

/-- The reciprocal of the logarithm of two. -/
def il : ℝ := (Real.log 2)⁻¹

theorem il_pos : 0 < il := inv_pos.mpr (Real.log_pos (by norm_num))

theorem div_ln2 (x : EReal) : Ideal.div x ln2 = x * (il : EReal) := by
  rw [ln2_eq]
  unfold Ideal.div il
  rw [if_neg (by
    have := Real.log_pos (show (1 : ℝ) < 2 by norm_num)
    exact_mod_cast this.ne'), EReal.coe_inv]

theorem exp2_il (x : EReal) : Ideal.exp2 (x * (il : EReal)) = Ideal.exp x := by
  induction x with
  | bot => rw [EReal.bot_mul_coe_of_pos il_pos]; rfl
  | top => rw [EReal.top_mul_coe_of_pos il_pos]; rfl
  | coe r =>
    rw [← EReal.coe_mul]
    show ((Real.rpow 2 (r * il) : ℝ) : EReal) = ((Real.exp r : ℝ) : EReal)
    congr 1
    show (2 : ℝ) ^ (r * il) = Real.exp r
    rw [Real.rpow_def_of_pos (by norm_num), mul_comm r, ← mul_assoc]
    unfold il
    rw [mul_inv_cancel₀ (Real.log_pos (by norm_num)).ne', one_mul]

theorem max_il (x y : EReal) : max (x * (il : EReal)) (y * (il : EReal)) = max x y * (il : EReal) := by
  have hm : Monotone (fun z : EReal => z * (il : EReal)) := fun a b h =>
    mul_le_mul_of_nonneg_right h (by exact_mod_cast il_pos.le)
  exact (hm.map_max (a := x) (b := y)).symm

theorem sub_il (x : EReal) (M : ℝ) : x * (il : EReal) - (M : EReal) * (il : EReal) = (x - (M : EReal)) * (il : EReal) := by
  induction x with
  | bot => rw [EReal.bot_mul_coe_of_pos il_pos, EReal.bot_sub, EReal.bot_sub, EReal.bot_mul_coe_of_pos il_pos]
  | top =>
    rw [EReal.top_mul_coe_of_pos il_pos, EReal.top_sub_coe, ← EReal.coe_mul, EReal.top_sub_coe, EReal.top_mul_coe_of_pos il_pos]
  | coe r => norm_cast; rw [sub_mul]

/-- A weight below a finite greatest weight has a real exponential, between nothing and one. -/
theorem exp_real (x : EReal) (M : ℝ) (h : x ≤ (M : EReal)) : ∃ e : ℝ, 0 ≤ e ∧ Ideal.exp (x - (M : EReal)) = (e : EReal) := by
  induction x with
  | bot => exact ⟨0, le_refl _, by rw [EReal.bot_sub]; rfl⟩
  | top => simp at h
  | coe r => exact ⟨Real.exp (r - M), (Real.exp_pos _).le, by norm_cast⟩

theorem exp_self (M : ℝ) : Ideal.exp ((M : EReal) - (M : EReal)) = ((1 : ℝ) : EReal) := by
  norm_cast
  show ((Real.exp (M - M) : ℝ) : EReal) = _
  simp

/-- Dividing a mixture by the sum of its weights is mixing with the weights divided. -/
theorem div_mix (a b d o1 o2 o3 : EReal) (ra rb rd : ℝ) (ha : a = ra) (hb : b = rb) (hd : d = rd)
    (hs : 0 < ra + rb + rd) :
    Ideal.div (a * o1 + b * o2 + d * o3) (a + b + d) = Ideal.div a (a + b + d) * o1 + Ideal.div b (a + b + d) * o2 + Ideal.div d (a + b + d) * o3 := by
  subst ha hb hd
  have hS : ((ra : EReal) + rb + rd) = ((ra + rb + rd : ℝ) : EReal) := by push_cast; rfl
  rw [hS]
  unfold Ideal.div
  have hne : ((ra + rb + rd : ℝ) : EReal) ≠ 0 := by exact_mod_cast hs.ne'
  simp only [if_neg hne]
  rw [← EReal.coe_inv]
  have hi : 0 ≤ (ra + rb + rd)⁻¹ := (inv_pos.mpr hs).le
  generalize (ra + rb + rd)⁻¹ = q at hi
  have hq : (0 : EReal) ≤ (q : EReal) := by exact_mod_cast hi
  rw [EReal.right_distrib_of_nonneg_of_ne_top hq (EReal.coe_ne_top q), EReal.right_distrib_of_nonneg_of_ne_top hq (EReal.coe_ne_top q)]
  simp only [mul_right_comm]

/-- Where the greatest logarithmic weight is a number, the two forms of the mixture agree. -/
theorem mix_eq (l1 l2 l3 o1 o2 o3 : EReal) (hb : top3 l1 l2 l3 ≠ ⊥) (ht : top3 l1 l2 l3 ≠ ⊤) :
    mixK (Ideal.div l1 ln2) (Ideal.div l2 ln2) (Ideal.div l3 ln2) o1 o2 o3 = mixE l1 l2 l3 o1 o2 o3 := by
  unfold mixK
  simp only [div_ln2, max_il]
  unfold mixE
  have h1 : l1 ≤ top3 l1 l2 l3 := (le_max_left _ _).trans (le_max_left _ _)
  have h2 : l2 ≤ top3 l1 l2 l3 := (le_max_right _ _).trans (le_max_left _ _)
  have h3 : l3 ≤ top3 l1 l2 l3 := le_max_right _ _
  have hm : top3 l1 l2 l3 = l1 ∨ top3 l1 l2 l3 = l2 ∨ top3 l1 l2 l3 = l3 := by
    unfold top3
    rcases max_choice (max l1 l2) l3 with h | h
    · rw [h]
      exact (max_choice l1 l2).imp_right .inl
    · exact .inr (.inr h)
  change Ideal.div (Ideal.exp2 (l1 * il - top3 l1 l2 l3 * il) * o1 + Ideal.exp2 (l2 * il - top3 l1 l2 l3 * il) * o2 + Ideal.exp2 (l3 * il - top3 l1 l2 l3 * il) * o3)
    (Ideal.exp2 (l1 * il - top3 l1 l2 l3 * il) + Ideal.exp2 (l2 * il - top3 l1 l2 l3 * il) + Ideal.exp2 (l3 * il - top3 l1 l2 l3 * il)) = _
  generalize top3 l1 l2 l3 = T at *
  lift T to ℝ using ⟨ht, hb⟩
  simp only [sub_il, exp2_il]
  obtain ⟨e1, p1, q1⟩ := exp_real l1 T h1
  obtain ⟨e2, p2, q2⟩ := exp_real l2 T h2
  obtain ⟨e3, p3, q3⟩ := exp_real l3 T h3
  refine div_mix _ _ _ _ _ _ e1 e2 e3 q1 q2 q3 ?_
  have one (x : EReal) (e : ℝ) (hx : (T : EReal) = x) (q : Ideal.exp (x - (T : EReal)) = e) : e = 1 := by
    rw [← hx, exp_self] at q
    exact_mod_cast q.symm
  rcases hm with h | h | h
  · have := one l1 e1 h q1; linarith
  · have := one l2 e2 h q2; linarith
  · have := one l3 e3 h q3; linarith

end Cert.Mlp

end
-- ==== Proof.Mlp.Pay.lean ====
/- The kernel body's larger expressions read at one index, each as sums over rows. -/
module

public import proofs.«01_k».proof.Proof.Gen.Kernel2Ideal.Skeleton
public import proofs.«01_k».proof.Proof.Mlp.Spec
public import Idealize.ShloMosaic.Lib.Pointwise

@[expose] public section

noncomputable section

namespace Cert.Mlp

open Cert.Kernel2Ideal Cert.Kernel2Ideal.Gen
open Idealize.ShloMosaic

/-- The norm before the feed-forward part, the sum of squares already taken. -/
theorem pay74_at (a : FVec Ideal S512x1024 .f32) (b : Vec Ideal S1x1024 .f32) (s : FVec Ideal S512x1 .f32) (w : BitVec 32)
    (x : Fin 1024 → EReal) (i : Fin 512) (j : Fin 1024) (hx : ∀ k, a (ix2 i k) = x k) (hs : s (ix2 i 0) = ∑ k, x k * x k) :
    k0_pay74 (F := Ideal) a (k0_pay72 b) s (FloatOps.ofBits .f32 w) (ix2 i j) = rms w x (fun k => b (ix2 0 k)) j := by
  pointwise [k0_pay74, k0_pay72]
  rw [hs, hx]; rfl

/-- Four slabs of 128 channels side by side. -/
theorem concat4_at (a b c d : FVec Ideal S512x128 .f32) (Y : Fin 512 → EReal) (i : Fin 512)
    (ha : ∀ l : Fin 128, a (ix2 i l) = Y ⟨l.val, by omega⟩) (hb : ∀ l : Fin 128, b (ix2 i l) = Y ⟨128 + l.val, by omega⟩)
    (hc : ∀ l : Fin 128, c (ix2 i l) = Y ⟨256 + l.val, by omega⟩) (hd : ∀ l : Fin 128, d (ix2 i l) = Y ⟨384 + l.val, by omega⟩) (k : Fin 512) :
    concatenate S512x512 1 [⟨S512x128, a⟩, ⟨S512x128, b⟩, ⟨S512x128, c⟩, ⟨S512x128, d⟩]
      concatenates_S512x128_S512x128_S512x128_S512x128_S512x512_d1 (ix2 i k) = Y k := by
  pointwise
  split_ifs <;> simp only [ha, hb, hc, hd] <;> congr 1 <;> apply Fin.ext <;> simp only [] <;> omega

/-- Slab 0 of the mixed outputs. -/
theorem slab0_at (v1 v3 : FVec Ideal S512x128 .f32) (v24 v61 : Vec Ideal S1x512x128 .f32) (o1 o2 : Vec Ideal S1x1x1x512x128 .f32) (i : Fin 512) (l : Fin 128) :
    k0_pay18 (F := Ideal) (k0_pay10 v1 v3 v24) (k0_pay11 v1 v3 v24) (k0_pay12 v1 v3 v24) (k0_pay13 v1 v3 v24 o1 o2) v61 (ix2 i l)
      = mixK (v1 (ix2 i l)) (v3 (ix2 i l)) (v24 (ix3 0 i l)) (o1 (ix5 0 0 0 i l)) (o2 (ix5 0 0 0 i l)) (v61 (ix3 0 i l)) := by
  pointwise [k0_pay18, k0_pay10, k0_pay11, k0_pay12, k0_pay13, k0_pay9, k0_pay8]
  rfl

/-- Slab 1. -/
theorem slab1_at (v1 v3 : FVec Ideal S512x128 .f32) (v24 v61 : Vec Ideal S1x512x128 .f32) (o1 o2 : Vec Ideal S1x1x1x512x128 .f32) (i : Fin 512) (l : Fin 128) :
    k0_pay35 (F := Ideal) (k0_pay27 v1 v3 v24) (k0_pay28 v1 v3 v24) (k0_pay29 v1 v3 v24) (k0_pay30 v1 v3 v24 o1 o2) v61 (ix2 i l)
      = mixK (v1 (ix2 i l)) (v3 (ix2 i l)) (v24 (ix3 0 i l)) (o1 (ix5 0 0 0 i l)) (o2 (ix5 0 0 0 i l)) (v61 (ix3 0 i l)) := by
  pointwise [k0_pay35, k0_pay27, k0_pay28, k0_pay29, k0_pay30, k0_pay26, k0_pay25]
  rfl

/-- Slab 2. -/
theorem slab2_at (v1 v3 : FVec Ideal S512x128 .f32) (v24 v61 : Vec Ideal S1x512x128 .f32) (o1 o2 : Vec Ideal S1x1x1x512x128 .f32) (i : Fin 512) (l : Fin 128) :
    k0_pay53 (F := Ideal) (k0_pay45 v1 v3 v24) (k0_pay46 v1 v3 v24) (k0_pay47 v1 v3 v24) (k0_pay48 (k0_pay45 v1 v3 v24) (k0_pay46 v1 v3 v24) o1 o2) v61 (ix2 i l)
      = mixK (v1 (ix2 i l)) (v3 (ix2 i l)) (v24 (ix3 0 i l)) (o1 (ix5 0 0 0 i l)) (o2 (ix5 0 0 0 i l)) (v61 (ix3 0 i l)) := by
  pointwise [k0_pay53, k0_pay45, k0_pay46, k0_pay47, k0_pay48, k0_pay44, k0_pay43]
  rfl

/-- Slab 3, its division written where the slabs are joined. -/
theorem slab3_at (v1 v3 : FVec Ideal S512x128 .f32) (v24 v61 : Vec Ideal S1x512x128 .f32) (o1 o2 : Vec Ideal S1x1x1x512x128 .f32) (i : Fin 512) (l : Fin 128) :
    divf (addf (k0_pay66 (F := Ideal) v1 v3 v24 o1 o2) (mulf (k0_pay65 v1 v3 v24) (shapeCast S512x128 v61 shapeCasts_S1x512x128_S512x128)))
        (addf (addf (k0_pay63 v1 v3 v24) (k0_pay64 v1 v3 v24)) (k0_pay65 v1 v3 v24)) (ix2 i l)
      = mixK (v1 (ix2 i l)) (v3 (ix2 i l)) (v24 (ix3 0 i l)) (o1 (ix5 0 0 0 i l)) (o2 (ix5 0 0 0 i l)) (v61 (ix3 0 i l)) := by
  pointwise [k0_pay66, k0_pay65, k0_pay64, k0_pay63, k0_pay62, k0_pay61]
  rfl

/-- The attention mixer's norm, the output projection and the first residual. -/
theorem pay71_at (a b c d e f g : FVec Ideal S512x128 .f32) (h : Vec Ideal S1x512x128 .f32) (ga : Vec Ideal S1x512 .f32)
    (mr : Vec Ideal S1x512x512 .bf16) (w0 w1 : Vec Ideal S512x1024 .bf16) (x : Vec Ideal S1x512x1024 .f32)
    (wo : Fin 1024 → Fin 1024 → EReal) (h0 : ∀ k j, w0 (ix2 k j) = wo (lo k) j) (h1 : ∀ k j, w1 (ix2 k j) = wo (hi k) j)
    (Y : Fin 512 → EReal) (i : Fin 512) (j : Fin 1024)
    (hY : ∀ k, concatenate S512x512 1 [⟨S512x128, a⟩, ⟨S512x128, b⟩, ⟨S512x128, c⟩,
      ⟨S512x128, divf (addf g (mulf f (shapeCast S512x128 h shapeCasts_S1x512x128_S512x128))) (addf (addf d e) f)⟩]
        concatenates_S512x128_S512x128_S512x128_S512x128_S512x512_d1 (ix2 i k) = Y k) :
    k0_pay71 (F := Ideal) a b c d e f g h ga mr w0 w1 x (ix2 i j)
      = resid Y (fun k => mr (ix3 0 i k)) (fun k => ga (ix2 0 k)) wo (fun k => x (ix3 0 i k)) j := by
  simp only [k0_pay71]
  revert hY
  generalize concatenate _ _ _ _ = Z
  intro hY
  pointwise
  simp only [hY, h0, h1]
  rfl

/-- The sum of squares of a residual row. -/
theorem pay73_at (a b c d e f g : FVec Ideal S512x128 .f32) (h : Vec Ideal S1x512x128 .f32) (ga : Vec Ideal S1x512 .f32)
    (mr : Vec Ideal S1x512x512 .bf16) (w0 w1 : Vec Ideal S512x1024 .bf16) (x : Vec Ideal S1x512x1024 .f32) (i : Fin 512) :
    k0_pay73 (F := Ideal) a b c d e f g h ga mr w0 w1 x (ix2 i 0)
      = ∑ k, k0_pay71 (F := Ideal) a b c d e f g h ga mr w0 w1 x (ix2 i k) * k0_pay71 (F := Ideal) a b c d e f g h ga mr w0 w1 x (ix2 i k) := by
  simp only [k0_pay73]
  generalize k0_pay71 a b c d e f g h ga mr w0 w1 x = Z
  pointwise

/-- The first two groups of hidden channels. -/
theorem pay75_at (a : FVec Ideal S512x1024 .f32) (b : FVec Ideal S1x1024 .f32) (s : FVec Ideal S512x1 .f32) (w : Ideal .f32)
    (u0 d0 u1 d1 : Vec Ideal S1024x1024 .bf16) (h : Fin 1024 → EReal) (up : Fin 1024 → Fin 4096 → EReal) (dn : Fin 4096 → Fin 1024 → EReal)
    (i : Fin 512) (j : Fin 1024) (hh : ∀ k, k0_pay74 (F := Ideal) a b s w (ix2 i k) = h k)
    (hu0 : ∀ p k, u0 (ix2 p k) = up p (hid 0 k)) (hd0 : ∀ k j, d0 (ix2 k j) = dn (hid 0 k) j)
    (hu1 : ∀ p k, u1 (ix2 p k) = up p (hid 1 k)) (hd1 : ∀ k j, d1 (ix2 k j) = dn (hid 1 k) j) :
    k0_pay75 (F := Ideal) a b s w u0 d0 u1 d1 (ix2 i j) = group h up dn 0 j + group h up dn 1 j := by
  simp only [k0_pay75]
  revert hh
  generalize k0_pay74 a b s w = Z
  intro hh
  pointwise
  simp only [hh, hu0, hd0, hu1, hd1]
  rfl

/-- The activation of the third group. -/
theorem pay76_at (a : FVec Ideal S512x1024 .f32) (b : FVec Ideal S1x1024 .f32) (s : FVec Ideal S512x1 .f32) (w : Ideal .f32)
    (u2 : Vec Ideal S1024x1024 .bf16) (h : Fin 1024 → EReal) (up : Fin 1024 → Fin 4096 → EReal)
    (i : Fin 512) (j : Fin 1024) (hh : ∀ k, k0_pay74 (F := Ideal) a b s w (ix2 i k) = h k)
    (hu2 : ∀ p k, u2 (ix2 p k) = up p (hid 2 k)) :
    k0_pay76 (F := Ideal) a b s w u2 (ix2 i j) = act h up (hid 2 j) := by
  simp only [k0_pay76]
  revert hh
  generalize k0_pay74 a b s w = Z
  intro hh
  pointwise
  simp only [hh, hu2]
  rfl

/-- The last two groups, the second residual and the last norm. -/
theorem pay77_at (x1 : FVec Ideal S512x1024 .f32) (z : FVec Ideal S512x1024 .bf16) (u : FVec Ideal S512x1024 .f32) (v : FVec Ideal S512x1024 .bf16)
    (d2 u3 d3 : Vec Ideal S1024x1024 .bf16) (gf : Vec Ideal S1x1024 .f32)
    (x g : Fin 1024 → EReal) (up : Fin 1024 → Fin 4096 → EReal) (dn : Fin 4096 → Fin 1024 → EReal) (i : Fin 512) (j : Fin 1024)
    (hx : ∀ k, x1 (ix2 i k) = x k) (hz : ∀ k, z (ix2 i k) = rms 0x44800000#32 x g k)
    (hu : ∀ k, u (ix2 i k) = group (rms 0x44800000#32 x g) up dn 0 k + group (rms 0x44800000#32 x g) up dn 1 k)
    (hv : ∀ k, v (ix2 i k) = act (rms 0x44800000#32 x g) up (hid 2 k))
    (hd2 : ∀ k j, d2 (ix2 k j) = dn (hid 2 k) j)
    (hu3 : ∀ p k, u3 (ix2 p k) = up p (hid 3 k)) (hd3 : ∀ k j, d3 (ix2 k j) = dn (hid 3 k) j) :
    k0_pay1 (F := Ideal) (k0_pay77 x1 z u v d2 u3 d3 gf) (ix3 0 i j) = rms 0x44800000#32 (after x g up dn) (fun k => gf (ix2 0 k)) j := by
  pointwise [k0_pay1, k0_pay77]
  simp only [hx, hz, hu, hv, hd2, hu3, hd3]
  rfl

end Cert.Mlp

end
-- ==== Proof.Mlp.Scratch.lean ====
/- The two scratch buffers of the closing stage. The dilated pattern's block comes as four groups of 128 rows; the body
   stores group `g` of slab `s` to every fourth row from row `g`. Read back, row `r` is therefore row `r / 4` of group
   `r % 4`. -/
module

public import proofs.«01_k».proof.Proof.Gen.Kernel2Ideal.Skeleton
public import Idealize.ShloMosaic.Lib.Pointwise
public import Idealize.ShloMosaic.Lib.Pipeline.Value

@[expose] public section

noncomputable section

namespace Cert.Mlp

open Cert.Kernel2Ideal Cert.Kernel2Ideal.Gen
open Idealize.ShloMosaic

/-- What a fully stored scratch buffer holds, from the block it is filled from. -/
def scr (x : Vec Ideal S1x4x4x128x128 .f32) : S4x512x128.Idx → EReal := fun y =>
  x (ix5 0 ⟨(y 1).val % 4, by omega⟩ (y 0) ⟨(y 1).val / 4, by have := (y 1).isLt; change _ < 512 at this; omega⟩ (y 2))

/-- A load through a unit-stride rectangle of a whole buffer reads the contents at the shifted index. -/
theorem load_at {S : Shape} {e : EltTy} (arg : Memref sig .tc .vmem S e) (h : arg.IsWhole) (x : Vec Ideal S e)
    (off size : Fin S.rank → ℕ) (inb : ∀ a, off a + size a ≤ S.size a) (y : (Rect.unit off size inb).shape.Idx)
    (z : S.Idx) (hz : ∀ a, (z a).val = off a + (y a).val) :
    View.readAt (Elt Ideal) arg.view (Rect.unit off size inb).toLoadRect (h.unread x) y = x z := by
  rw [View.readAt_eq_ld, h.read_unread, View.ld_unit]
  exact congrArg x (funext fun a => Fin.ext (hz a).symm)

/-- The store of group `g` of slab `s`: where it goes and what it carries. -/
abbrev grp (arg : Memref sig .tc .vmem S1x4x4x128x128 .f32) (h : arg.IsWhole) (x : Vec Ideal S1x4x4x128x128 .f32) (s g : ℕ)
    (ia : ∀ a, (![0, g, s, 0, 0] : Fin 5 → ℕ) a + S1x1x1x128x128.size a ≤ S1x4x4x128x128.size a)
    (ib : ∀ a : Fin S4x512x128.rank, S1x128x128.size a = 0 ∨ (![s, g, 0] : Fin 3 → ℕ) a + (![1, 4, 1] : Fin 3 → ℕ) a * (S1x128x128.size a - 1) < S4x512x128.size a)
    (st : ∀ a : Fin S4x512x128.rank, 0 < (![1, 4, 1] : Fin 3 → ℕ) a) : View.Piece (Elt Ideal) S4x512x128 .f32 :=
  ⟨{ off := ![s, g, 0], size := S1x128x128.size, stride := ![1, 4, 1], inb := ib, stride_pos := st },
    shapeCast S1x128x128 (shapeCast S128x128
      (View.readAt (Elt Ideal) arg.view (Rect.unit (s := S1x4x4x128x128) ![0, g, s, 0, 0] S1x1x1x128x128.size ia).toLoadRect (h.unread x))
        shapeCasts_S1x1x1x128x128_S128x128) shapeCasts_S128x128_S1x128x128⟩

/-- Every store of `L` carries its part of `scr x`, and slabs below `n` are covered. -/
def Filled (x : Vec Ideal S1x4x4x128x128 .f32) (n : ℕ) (L : List (View.Piece (Elt Ideal) S4x512x128 .f32)) : Prop :=
  (∀ p ∈ L, ∀ z : p.1.shape.Idx, p.2 z = scr x (p.1.emb z)) ∧ ∀ y : S4x512x128.Idx, (y 0).val < n → ∃ p ∈ L, y ∈ p.1.set

theorem two_casts_at (w : Vec Ideal S1x1x1x128x128 .f32) (r l : Fin 128) :
    shapeCast S1x128x128 (shapeCast S128x128 w shapeCasts_S1x1x1x128x128_S128x128) shapeCasts_S128x128_S1x128x128 (ix3 0 r l) = w (ix5 0 0 0 r l) := by
  pointwise

section

variable (arg : Memref sig .tc .vmem S1x4x4x128x128 .f32) (h : arg.IsWhole) (x : Vec Ideal S1x4x4x128x128 .f32)

theorem grp_ok (s g : ℕ) (hg : g < 4) (ia) (ib) (st) (z : (grp arg h x s g ia ib st).1.shape.Idx) :
    (grp arg h x s g ia ib st).2 z = scr x ((grp arg h x s g ia ib st).1.emb z) := by
  change S1x128x128.Idx at z
  have e : z = ix3 (0 : Fin 1) (z 1 : Fin 128) (z 2 : Fin 128) := by
    funext a; fin_cases a
    · exact Fin.ext (Nat.lt_one_iff.mp (z 0).isLt)
    · rfl
    · rfl
  rw [e]
  generalize (z 1 : Fin 128) = r
  generalize (z 2 : Fin 128) = l
  refine (two_casts_at _ r l).trans (load_at arg h x _ _ ia _ _ fun a => ?_)
  fin_cases a
  · rfl
  · show (g + 4 * r.val) % 4 = g + 0; omega
  · show s + 1 * 0 = s + 0; omega
  · show (g + 4 * r.val) / 4 = 0 + r.val; omega
  · show 0 + 1 * l.val = 0 + l.val; omega

/-- Row `y` of slab `s` lies in the group its row number says. -/
theorem grp_mem (s g : ℕ) (ia) (ib) (st) (y : S4x512x128.Idx) (h0 : (y 0).val = s) (h1 : (y 1).val % 4 = g) :
    y ∈ (grp arg h x s g ia ib st).1.set := by
  have hy := (y 1).isLt; change _ < 512 at hy
  refine LoadRect.mem_set _ |>.mpr fun a => ?_
  fin_cases a
  · exact ⟨0, Nat.one_pos, by show (y 0).val = s + 1 * 0; omega⟩
  · exact ⟨(y 1).val / 4, by show (y 1).val / 4 < 128; omega, by show (y 1).val = g + 4 * ((y 1).val / 4); omega⟩
  · exact ⟨(y 2).val, (y 2).isLt, by show (y 2).val = 0 + 1 * (y 2).val; omega⟩

theorem filled_nil : Filled x 0 [] := ⟨by simp, fun _ h => absurd h (Nat.not_lt_zero _)⟩

/-- Four stores fill one more slab. -/
theorem filled_step {n : ℕ} {L : List (View.Piece (Elt Ideal) S4x512x128 .f32)} (hL : Filled x n L) {a0 b0 c0 a1 b1 c1 a2 b2 c2 a3 b3 c3} :
    Filled x (n + 1) (grp arg h x n 3 a3 b3 c3 :: grp arg h x n 2 a2 b2 c2 :: grp arg h x n 1 a1 b1 c1 :: grp arg h x n 0 a0 b0 c0 :: L) := by
  refine ⟨fun p hp => ?_, fun y hy => ?_⟩
  · rcases List.mem_cons.mp hp with rfl | hp
    · exact grp_ok arg h x n 3 (by omega) _ _ _
    rcases List.mem_cons.mp hp with rfl | hp
    · exact grp_ok arg h x n 2 (by omega) _ _ _
    rcases List.mem_cons.mp hp with rfl | hp
    · exact grp_ok arg h x n 1 (by omega) _ _ _
    rcases List.mem_cons.mp hp with rfl | hp
    · exact grp_ok arg h x n 0 (by omega) _ _ _
    exact hL.1 p hp
  · by_cases hlt : (y 0).val < n
    · obtain ⟨p, hp, hm⟩ := hL.2 y hlt
      exact ⟨p, by simp [hp], hm⟩
    have h0 : (y 0).val = n := by omega
    have h4 : (y 1).val % 4 < 4 := Nat.mod_lt _ (by omega)
    rcases (by omega : (y 1).val % 4 = 0 ∨ (y 1).val % 4 = 1 ∨ (y 1).val % 4 = 2 ∨ (y 1).val % 4 = 3) with e | e | e | e
    · exact ⟨_, by simp, grp_mem arg h x n 0 a0 b0 c0 y h0 e⟩
    · exact ⟨_, by simp, grp_mem arg h x n 1 a1 b1 c1 y h0 e⟩
    · exact ⟨_, by simp, grp_mem arg h x n 2 a2 b2 c2 y h0 e⟩
    · exact ⟨_, by simp, grp_mem arg h x n 3 a3 b3 c3 y h0 e⟩

/-- Slab `s` read back, once it is filled. -/
theorem filled_read {n : ℕ} {L : List (View.Piece (Elt Ideal) S4x512x128 .f32)} (hL : Filled x n L) (v : View sig .tc .vmem S4x512x128 .f32)
    (s : Fin 4) (hs : s.val < n) (off : Fin 3 → ℕ) (inb) (hoff : off = ![s.val, 0, 0]) (r : Fin 512) (l : Fin 128) :
    v.readCov L (Rect.unit (s := S4x512x128) off S1x512x128.size inb).toLoadRect (ix3 0 r l) = x (ix5 0 ⟨r.val % 4, by omega⟩ s ⟨r.val / 4, by omega⟩ l) := by
  subst hoff
  rw [View.readCov_eq_canon']
  have e : (Rect.unit (s := S4x512x128) ![s.val, 0, 0] S1x512x128.size inb).toLoadRect.idx (ix3 0 r l) = ix3 s r l := by
    funext a; apply Fin.ext; fin_cases a
    · show s.val + 1 * 0 = s.val; omega
    · show 0 + 1 * r.val = r.val; omega
    · show 0 + 1 * l.val = l.val; omega
  show View.canon L _ = _
  rw [e, View.canon_apply_of_pieces (scr x) L hL.1 _ (hL.2 _ hs)]
  rfl

end

end Cert.Mlp

end
-- ==== Proof.Mlp.Block.lean ====
/- One grid point of the closing stage: row `r` of the block the body leaves is the specification's row of the blocks
   it is given. -/
module

public import proofs.«01_k».proof.Proof.Gen.Kernel2Ideal.Value
public import proofs.«01_k».proof.Proof.Mlp.Pay
public import proofs.«01_k».proof.Proof.Mlp.Scratch

@[expose] public section

noncomputable section

namespace Cert.Mlp

open Cert.Kernel2Ideal Cert.Kernel2Ideal.Gen
open Idealize.ShloMosaic

/-- Slab of a channel, and its lane within the slab. -/
abbrev sl (k : Fin 512) : Fin 4 := ⟨k.val / 128, by omega⟩
abbrev ln (k : Fin 512) : Fin 128 := ⟨k.val % 128, by omega⟩

/-- Row `r` of the mixed attention outputs, from the six blocks the body is given. -/
def mixRow (x2 x3 : Vec Ideal S1x1x4x512x128 .f32) (x4 : Vec Ideal S1x4x4x128x128 .f32) (x5 x6 : Vec Ideal S1x1x4x512x128 .f32)
    (x7 : Vec Ideal S1x4x4x128x128 .f32) (r : Fin 512) (k : Fin 512) : EReal :=
  mixK (x5 (ix5 0 0 (sl k) r (ln k))) (x6 (ix5 0 0 (sl k) r (ln k))) (x7 (ix5 0 ⟨r.val % 4, by omega⟩ (sl k) ⟨r.val / 4, by omega⟩ (ln k)))
    (x2 (ix5 0 0 (sl k) r (ln k))) (x3 (ix5 0 0 (sl k) r (ln k))) (x4 (ix5 0 ⟨r.val % 4, by omega⟩ (sl k) ⟨r.val / 4, by omega⟩ (ln k)))

/-- Slab `s` of a block, through the load that drops its leading axes. -/
theorem slab_load (arg : Memref sig .tc .vmem S1x1x4x512x128 .f32) (h : arg.IsWhole) (x : Vec Ideal S1x1x4x512x128 .f32)
    (s : Fin 4) (off : Fin 5 → ℕ) (inb) (hoff : off = ![0, 0, s.val, 0, 0]) (r : Fin 512) (l : Fin 128) :
    View.readAt (Elt Ideal) arg.view (Rect.unit (s := S1x1x4x512x128) off S1x1x1x512x128.size inb).toLoadRect (h.unread x) (ix5 0 0 0 r l)
      = x (ix5 0 0 s r l) := by
  subst hoff
  refine load_at arg h x _ _ _ _ _ fun a => ?_
  fin_cases a
  · rfl
  · rfl
  · show s.val = s.val + 0; omega
  · show r.val = 0 + r.val; omega
  · show l.val = 0 + l.val; omega

theorem drop_axes_at (w : Vec Ideal S1x1x1x512x128 .f32) (r : Fin 512) (l : Fin 128) :
    shapeCast S512x128 w shapeCasts_S1x1x1x512x128_S512x128 (ix2 r l) = w (ix5 0 0 0 r l) := by
  pointwise

/-- The same with the axes dropped. -/
theorem slab_cast (arg : Memref sig .tc .vmem S1x1x4x512x128 .f32) (h : arg.IsWhole) (x : Vec Ideal S1x1x4x512x128 .f32)
    (s : Fin 4) (off : Fin 5 → ℕ) (inb) (hoff : off = ![0, 0, s.val, 0, 0]) (r : Fin 512) (l : Fin 128) :
    shapeCast S512x128 (View.readAt (Elt Ideal) arg.view (Rect.unit (s := S1x1x4x512x128) off S1x1x1x512x128.size inb).toLoadRect (h.unread x))
      shapeCasts_S1x1x1x512x128_S512x128 (ix2 r l) = x (ix5 0 0 s r l) := by
  exact (drop_axes_at _ r l).trans (slab_load arg h x s off inb hoff r l)

/-- A load of a whole block reads it. -/
theorem whole_load {S : Shape} {e : EltTy} (arg : Memref sig .tc .vmem S e) (h : arg.IsWhole) (x : Vec Ideal S e)
    (off : Fin S.rank → ℕ) (inb) (hoff : off = fun _ => 0) :
    View.readAt (Elt Ideal) arg.view (Rect.unit (s := S) off S.size inb).toLoadRect (h.unread x) = x := by
  rw [View.readAt_eq_ld, h.read_unread, View.ld_unit_zero hoff]

/-- A load of a rectangle of a matrix block. -/
theorem mat_load {m n m' n' : ℕ} {e : EltTy} (arg : Memref sig .tc .vmem ⟨2, ![m, n]⟩ e) (h : arg.IsWhole) (x : Vec Ideal ⟨2, ![m, n]⟩ e)
    (p q : ℕ) (inb) (i : Fin m') (j : Fin n') (i' : Fin m) (j' : Fin n) (hi : i'.val = p + i.val) (hj : j'.val = q + j.val) :
    View.readAt (Elt Ideal) arg.view (Rect.unit (s := ⟨2, ![m, n]⟩) ![p, q] ![m', n'] inb).toLoadRect (h.unread x) (ix2 i j) = x (ix2 i' j') := by
  refine load_at arg h x _ _ _ _ _ fun a => ?_
  fin_cases a
  · exact hi
  · exact hj

theorem out_block (c : Dev Cert.Kernel2Ideal.nD) (i : grid0.Coords) (arg2 : Memref sig .tc .vmem S1x512x1024 .f32) (harg2 : arg2.IsWhole) (arg3 : Memref sig .tc .vmem S1x512x512 .bf16) (harg3 : arg3.IsWhole) (arg4 : Memref sig .tc .vmem S1x1x4x512x128 .f32) (harg4 : arg4.IsWhole) (arg5 : Memref sig .tc .vmem S1x1x4x512x128 .f32) (harg5 : arg5.IsWhole) (arg6 : Memref sig .tc .vmem S1x4x4x128x128 .f32) (harg6 : arg6.IsWhole) (arg7 : Memref sig .tc .vmem S1x1x4x512x128 .f32) (harg7 : arg7.IsWhole) (arg8 : Memref sig .tc .vmem S1x1x4x512x128 .f32) (harg8 : arg8.IsWhole) (arg9 : Memref sig .tc .vmem S1x4x4x128x128 .f32) (harg9 : arg9.IsWhole) (arg10 : Memref sig .tc .vmem S1x512 .f32) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x4096 .bf16) (harg13 : arg13.IsWhole) (arg14 : Memref sig .tc .vmem S4096x1024 .bf16) (harg14 : arg14.IsWhole) (arg15 : Memref sig .tc .vmem S1x1024 .f32) (harg15 : arg15.IsWhole) (arg16 : Memref sig .tc .vmem S1x512x1024 .f32) (harg16 : arg16.IsWhole) (arg17 : Memref sig .tc .vmem S4x512x128 .f32) (harg17 : arg17.IsWhole) (arg18 : Memref sig .tc .vmem S4x512x128 .f32) (harg18 : arg18.IsWhole)
    (x0 : Vec Ideal S1x512x1024 .f32) (x1 : Vec Ideal S1x512x512 .bf16) (x2 : Vec Ideal S1x1x4x512x128 .f32) (x3 : Vec Ideal S1x1x4x512x128 .f32) (x4 : Vec Ideal S1x4x4x128x128 .f32) (x5 : Vec Ideal S1x1x4x512x128 .f32) (x6 : Vec Ideal S1x1x4x512x128 .f32) (x7 : Vec Ideal S1x4x4x128x128 .f32) (x8 : Vec Ideal S1x512 .f32) (x9 : Vec Ideal S1024x1024 .bf16) (x10 : Vec Ideal S1x1024 .f32) (x11 : Vec Ideal S1024x4096 .bf16) (x12 : Vec Ideal S4096x1024 .bf16) (x13 : Vec Ideal S1x1024 .f32)
    (r : Fin 512) (j : Fin 1024) :
    out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 (ix3 0 r j)
      = row (mixRow x2 x3 x4 x5 x6 x7 r) (fun k => x1 (ix3 0 r k)) (fun k => x8 (ix2 0 k)) (fun k j => x9 (ix2 k j)) (fun k => x0 (ix3 0 r k))
          (fun k => x10 (ix2 0 k)) (fun k => x13 (ix2 0 k)) (fun p u => x11 (ix2 p u)) (fun u j => x12 (ix2 u j)) j := by
  have z2 : (![0, 0] : Fin 2 → ℕ) = fun _ => 0 := by funext a; fin_cases a <;> rfl
  have z3 : (![0, 0, 0] : Fin 3 → ℕ) = fun _ => 0 := by funext a; fin_cases a <;> rfl
  have f1 : Filled x7 1 (kernelRun0_A.sl.HS1_4 c arg9 harg9 x7) := filled_step arg9 harg9 x7 (filled_nil x7)
  have f2 : Filled x7 2 (kernelRun0_A.sl.HS1_8 c arg9 harg9 x7) := filled_step arg9 harg9 x7 f1
  have f3 : Filled x7 3 (kernelRun0_A.sl.HS1_12 c arg9 harg9 x7) := filled_step arg9 harg9 x7 f2
  have f4 : Filled x7 4 (kernelRun0_A.sl.HS1_16 c arg9 harg9 x7) := filled_step arg9 harg9 x7 f3
  have g1 : Filled x4 1 (kernelRun0_A.sl.HS0_4 c arg6 harg6 x4) := filled_step arg6 harg6 x4 (filled_nil x4)
  have g2 : Filled x4 2 (kernelRun0_A.sl.HS0_8 c arg6 harg6 x4) := filled_step arg6 harg6 x4 g1
  have g3 : Filled x4 3 (kernelRun0_A.sl.HS0_12 c arg6 harg6 x4) := filled_step arg6 harg6 x4 g2
  have g4 : Filled x4 4 (kernelRun0_A.sl.HS0_16 c arg6 harg6 x4) := filled_step arg6 harg6 x4 g3
  -- the projection's two halves and the feed-forward part's eight tiles are rectangles of their matrices
  have u9 : ∀ (p : ℕ) (inb) (k : Fin 512) (j : Fin 1024) (k' : Fin 1024), k'.val = p + k.val →
      View.readAt (Elt Ideal) arg11.view (Rect.unit (s := S1024x1024) ![p, 0] S512x1024.size inb).toLoadRect (harg11.unread x9) (ix2 k j) = x9 (ix2 k' j) :=
    fun p inb k j k' hk => mat_load arg11 harg11 x9 p 0 inb k j k' j hk (Nat.zero_add _).symm
  have u11 : ∀ (q : ℕ) (inb) (k j : Fin 1024) (j' : Fin 4096), j'.val = q + j.val →
      View.readAt (Elt Ideal) arg13.view (Rect.unit (s := S1024x4096) ![0, q] S1024x1024.size inb).toLoadRect (harg13.unread x11) (ix2 k j) = x11 (ix2 k j') :=
    fun q inb k j j' hj => mat_load arg13 harg13 x11 0 q inb k j k j' (Nat.zero_add _).symm hj
  have u12 : ∀ (p : ℕ) (inb) (k j : Fin 1024) (k' : Fin 4096), k'.val = p + k.val →
      View.readAt (Elt Ideal) arg14.view (Rect.unit (s := S4096x1024) ![p, 0] S1024x1024.size inb).toLoadRect (harg14.unread x12) (ix2 k j) = x12 (ix2 k' j) :=
    fun p inb k j k' hk => mat_load arg14 harg14 x12 p 0 inb k j k' j hk (Nat.zero_add _).symm
  -- the four slabs of mixed outputs
  have s0 : ∀ l : Fin 128, kernelRun0_A.sl.r_4 c arg4 harg4 arg5 harg5 arg6 harg6 arg7 harg7 arg8 harg8 arg9 harg9 arg17 arg18 x2 x3 x4 x5 x6 x7 (ix2 r l)
      = mixRow x2 x3 x4 x5 x6 x7 r ⟨l.val, by omega⟩ := fun l => by
    refine (slab0_at _ _ _ _ _ _ r l).trans ?_
    have e1 : sl ⟨l.val, by omega⟩ = 0 := Fin.ext (by show l.val / 128 = 0; omega)
    have e2 : ln ⟨l.val, by omega⟩ = l := Fin.ext (by show l.val % 128 = l.val; omega)
    unfold mixRow
    rw [e1, e2]
    congr 1
    · exact slab_cast arg7 harg7 x5 0 _ _ rfl r l
    · exact slab_cast arg8 harg8 x6 0 _ _ rfl r l
    · exact filled_read x7 f1 _ 0 (by decide) _ _ rfl r l
    · exact slab_load arg4 harg4 x2 0 _ _ rfl r l
    · exact slab_load arg5 harg5 x3 0 _ _ rfl r l
    · exact filled_read x4 g1 _ 0 (by decide) _ _ rfl r l
  have s1 : ∀ l : Fin 128, kernelRun0_A.sl.r_10 c arg4 harg4 arg5 harg5 arg6 harg6 arg7 harg7 arg8 harg8 arg9 harg9 arg17 arg18 x2 x3 x4 x5 x6 x7 (ix2 r l)
      = mixRow x2 x3 x4 x5 x6 x7 r ⟨128 + l.val, by omega⟩ := fun l => by
    refine (slab1_at _ _ _ _ _ _ r l).trans ?_
    have e1 : sl ⟨128 + l.val, by omega⟩ = 1 := Fin.ext (by show (128 + l.val) / 128 = 1; omega)
    have e2 : ln ⟨128 + l.val, by omega⟩ = l := Fin.ext (by show (128 + l.val) % 128 = l.val; omega)
    unfold mixRow
    rw [e1, e2]
    congr 1
    · exact slab_cast arg7 harg7 x5 1 _ _ rfl r l
    · exact slab_cast arg8 harg8 x6 1 _ _ rfl r l
    · exact filled_read x7 f2 _ 1 (by decide) _ _ rfl r l
    · exact slab_load arg4 harg4 x2 1 _ _ rfl r l
    · exact slab_load arg5 harg5 x3 1 _ _ rfl r l
    · exact filled_read x4 g2 _ 1 (by decide) _ _ rfl r l
  have s2 : ∀ l : Fin 128, kernelRun0_A.sl.r_18 c arg4 harg4 arg5 harg5 arg6 harg6 arg7 harg7 arg8 harg8 arg9 harg9 arg17 arg18 x2 x3 x4 x5 x6 x7 (ix2 r l)
      = mixRow x2 x3 x4 x5 x6 x7 r ⟨256 + l.val, by omega⟩ := fun l => by
    refine (slab2_at _ _ _ _ _ _ r l).trans ?_
    have e1 : sl ⟨256 + l.val, by omega⟩ = 2 := Fin.ext (by show (256 + l.val) / 128 = 2; omega)
    have e2 : ln ⟨256 + l.val, by omega⟩ = l := Fin.ext (by show (256 + l.val) % 128 = l.val; omega)
    unfold mixRow
    rw [e1, e2]
    congr 1
    · exact slab_cast arg7 harg7 x5 2 _ _ rfl r l
    · exact slab_cast arg8 harg8 x6 2 _ _ rfl r l
    · exact filled_read x7 f3 _ 2 (by decide) _ _ rfl r l
    · exact slab_load arg4 harg4 x2 2 _ _ rfl r l
    · exact slab_load arg5 harg5 x3 2 _ _ rfl r l
    · exact filled_read x4 g3 _ 2 (by decide) _ _ rfl r l
  -- the residual stream's row
  have hx : ∀ k, kernelRun0_A.sl.r_26 c arg2 harg2 arg3 harg3 arg4 harg4 arg5 harg5 arg6 harg6 arg7 harg7 arg8 harg8 arg9 harg9 arg10 harg10 arg11 harg11 arg17 arg18 x0 x1 x2 x3 x4 x5 x6 x7 x8 x9 (ix2 r k)
      = resid (mixRow x2 x3 x4 x5 x6 x7 r) (fun k => x1 (ix3 0 r k)) (fun k => x8 (ix2 0 k)) (fun k j => x9 (ix2 k j)) (fun k => x0 (ix3 0 r k)) k := fun k => by
    unfold kernelRun0_A.sl.r_26
    rw [whole_load arg10 harg10 x8 _ _ z2, whole_load arg3 harg3 x1 _ _ z3, whole_load arg2 harg2 x0 _ _ z3]
    refine pay71_at _ _ _ _ _ _ _ _ _ _ _ _ _ (fun k j => x9 (ix2 k j)) (fun k j => u9 0 _ k j _ (Nat.zero_add _).symm) (fun k j => u9 512 _ k j _ rfl)
      (mixRow x2 x3 x4 x5 x6 x7 r) r k (concat4_at _ _ _ _ _ r s0 s1 s2 fun l => ?_)
    refine (slab3_at _ _ _ _ _ _ r l).trans ?_
    have e1 : sl ⟨384 + l.val, by omega⟩ = 3 := Fin.ext (by show (384 + l.val) / 128 = 3; omega)
    have e2 : ln ⟨384 + l.val, by omega⟩ = l := Fin.ext (by show (384 + l.val) % 128 = l.val; omega)
    unfold mixRow
    rw [e1, e2]
    congr 1
    · exact slab_cast arg7 harg7 x5 3 _ _ rfl r l
    · exact slab_cast arg8 harg8 x6 3 _ _ rfl r l
    · exact filled_read x7 f4 _ 3 (by decide) _ _ rfl r l
    · exact slab_load arg4 harg4 x2 3 _ _ rfl r l
    · exact slab_load arg5 harg5 x3 3 _ _ rfl r l
    · exact filled_read x4 g4 _ 3 (by decide) _ _ rfl r l
  have hs : kernelRun0_A.sl.r_28 c arg2 harg2 arg3 harg3 arg4 harg4 arg5 harg5 arg6 harg6 arg7 harg7 arg8 harg8 arg9 harg9 arg10 harg10 arg11 harg11 arg17 arg18 x0 x1 x2 x3 x4 x5 x6 x7 x8 x9 (ix2 r 0) = ∑ k, kernelRun0_A.sl.r_26 c arg2 harg2 arg3 harg3 arg4 harg4 arg5 harg5 arg6 harg6 arg7 harg7 arg8 harg8 arg9 harg9 arg10 harg10 arg11 harg11 arg17 arg18 x0 x1 x2 x3 x4 x5 x6 x7 x8 x9 (ix2 r k) * kernelRun0_A.sl.r_26 c arg2 harg2 arg3 harg3 arg4 harg4 arg5 harg5 arg6 harg6 arg7 harg7 arg8 harg8 arg9 harg9 arg10 harg10 arg11 harg11 arg17 arg18 x0 x1 x2 x3 x4 x5 x6 x7 x8 x9 (ix2 r k) :=
    pay73_at _ _ _ _ _ _ _ _ _ _ _ _ _ r
  simp only [hx] at hs
  -- and its norm
  have hz : ∀ k, k0_pay74 (kernelRun0_A.sl.r_26 c arg2 harg2 arg3 harg3 arg4 harg4 arg5 harg5 arg6 harg6 arg7 harg7 arg8 harg8 arg9 harg9 arg10 harg10 arg11 harg11 arg17 arg18 x0 x1 x2 x3 x4 x5 x6 x7 x8 x9) (kernelRun0_A.sl.r_27 c arg12 harg12 x10) (kernelRun0_A.sl.r_28 c arg2 harg2 arg3 harg3 arg4 harg4 arg5 harg5 arg6 harg6 arg7 harg7 arg8 harg8 arg9 harg9 arg10 harg10 arg11 harg11 arg17 arg18 x0 x1 x2 x3 x4 x5 x6 x7 x8 x9) kernelRun0_A.sl.cst_374 (ix2 r k)
      = rms 0x44800000#32 (resid (mixRow x2 x3 x4 x5 x6 x7 r) (fun k => x1 (ix3 0 r k)) (fun k => x8 (ix2 0 k)) (fun k j => x9 (ix2 k j)) (fun k => x0 (ix3 0 r k)))
          (fun k => x10 (ix2 0 k)) k := fun k => by
    unfold kernelRun0_A.sl.r_27 kernelRun0_A.sl.cst_374
    rw [whole_load arg12 harg12 x10 _ _ z2]
    exact pay74_at _ _ _ _ _ r k hx hs
  unfold out0_A_14
  rw [View.read_writes_junk_eq_canon]
  dsimp only [kernelRun0_A]
  rw [View.canon_unit_zero z3]
  unfold kernelRun0_A.sl.r_33
  rw [whole_load arg15 harg15 x13 _ _ z2]
  refine pay77_at _ _ _ _ _ _ _ _ _ (fun k => x10 (ix2 0 k)) (fun p u => x11 (ix2 p u)) (fun u j => x12 (ix2 u j)) r j hx hz (fun k => ?_) (fun k => ?_)
    (fun k j => u12 2048 _ k j _ rfl) (fun p k => u11 3072 _ p k _ rfl) (fun k j => u12 3072 _ k j _ rfl)
  · exact pay75_at _ _ _ _ _ _ _ _ _ _ _ r k hz (fun p k => u11 0 _ p k _ rfl) (fun k j => u12 0 _ k j _ rfl)
      (fun p k => u11 1024 _ p k _ rfl) (fun k j => u12 1024 _ k j _ rfl)
  · exact pay76_at _ _ _ _ _ _ _ r k hz (fun p k => u11 2048 _ p k _ rfl)

end Cert.Mlp

end
-- ==== Proof.Mlp.Host.lean ====
/- What the windows of the closing stage hold when its call starts: the host code's reshapes and transposes,
   read back to the program's arguments. -/
module

public import proofs.«01_k».proof.Proof.Gen.Kernel2Ideal.Value
public import proofs.«01_k».proof.Proof.Mlp.Soft
public import proofs.«01_k».proof.Proof.Mlp.Block

@[expose] public section

noncomputable section

namespace Cert.Mlp

open Cert.Kernel2Ideal Cert.Kernel2Ideal.Gen
open Idealize.ShloMosaic Idealize.ShloMosaic.TcCoe Idealize.SL.Sem

variable (m : (ℓ : Loc nD τ sig) → Buf (Elt Ideal) ℓ) (c : Dev nD)

/-- The head of a channel. -/
def hd (k : Fin 512) : Fin 8 := ⟨k.val / 64, by omega⟩
/-- The place of a channel in its head. -/
def dm (k : Fin 512) : Fin 64 := ⟨k.val % 64, by omega⟩

theorem hd_eq (k : Fin 512) : (⟨(sl k).val * 2 + (ln k).val / 64, by omega⟩ : Fin 8) = hd k :=
  Fin.ext (by unfold sl ln hd; show k.val / 128 * 2 + k.val % 128 / 64 = k.val / 64; omega)

theorem dm_eq (k : Fin 512) : (⟨(ln k).val % 64, by omega⟩ : Fin 64) = dm k :=
  Fin.ext (by unfold ln dm; show k.val % 128 % 64 = k.val % 64; omega)

theorem v2_at (b : Fin 2) (p : Fin 8192) (k : Fin 512) :
    (V m c main_v2 : S2x1x4x8192x128.Idx → EReal) (ix5 b 0 (sl k) p (ln k))
      = (m ((c : Thread nD τ).loc main_arg2) : S2x8192x8x64.Idx → EReal) (ix4 b p (hd k) (dm k)) := by
  rw [← hd_eq, ← dm_eq]
  entry_read
  pointwise

theorem v5_at (b : Fin 2) (p : Fin 8192) (k : Fin 512) :
    (V m c main_v5 : S2x1x4x8192x128.Idx → EReal) (ix5 b 0 (sl k) p (ln k))
      = (m ((c : Thread nD τ).loc main_arg3) : S2x8192x8x64.Idx → EReal) (ix4 b p (hd k) (dm k)) := by
  rw [← hd_eq, ← dm_eq]
  entry_read
  pointwise

theorem v8_at (b : Fin 2) (g : Fin 4) (q : Fin 2048) (k : Fin 512) :
    (V m c main_v8 : S2x4x4x2048x128.Idx → EReal) (ix5 b g (sl k) q (ln k))
      = (m ((c : Thread nD τ).loc main_arg4) : S2x8192x8x64.Idx → EReal) (ix4 b ⟨q.val * 4 + g.val, by omega⟩ (hd k) (dm k)) := by
  rw [← hd_eq, ← dm_eq]
  entry_read
  pointwise

theorem v17_at (b : Fin 2) (p : Fin 8192) (k : Fin 512) :
    (V m c main_v17 : S2x1x4x8192x128.Idx → EReal) (ix5 b 0 (sl k) p (ln k))
      = Ideal.div ((m ((c : Thread nD τ).loc main_arg5) : S2x8x8192.Idx → EReal) (ix3 b (hd k) p)) ln2 := by
  rw [← hd_eq]
  entry_read
  pointwise
  rfl

theorem v26_at (b : Fin 2) (p : Fin 8192) (k : Fin 512) :
    (V m c main_v26 : S2x1x4x8192x128.Idx → EReal) (ix5 b 0 (sl k) p (ln k))
      = Ideal.div ((m ((c : Thread nD τ).loc main_arg6) : S2x8x8192.Idx → EReal) (ix3 b (hd k) p)) ln2 := by
  rw [← hd_eq]
  entry_read
  pointwise
  rfl

theorem v35_at (b : Fin 2) (g : Fin 4) (q : Fin 2048) (k : Fin 512) :
    (V m c main_v35 : S2x4x4x2048x128.Idx → EReal) (ix5 b g (sl k) q (ln k))
      = Ideal.div ((m ((c : Thread nD τ).loc main_arg7) : S2x8x8192.Idx → EReal) (ix3 b (hd k) ⟨q.val * 4 + g.val, by omega⟩)) ln2 := by
  rw [← hd_eq]
  entry_read
  pointwise
  rfl

theorem v36_at (i : S2x8192x512.Idx) :
    (V m c main_v36 : S2x8192x512.Idx → EReal) i = (m ((c : Thread nD τ).loc main_arg1) : S2x8192x512.Idx → EReal) i := by
  entry_read
  rfl

theorem v37_at (k : Fin 512) :
    (V m c main_v37 : S1x512.Idx → EReal) (ix2 0 k) = (m ((c : Thread nD τ).loc main_arg8) : S512.Idx → EReal) (ix1 k) := by
  entry_read
  pointwise

theorem v38_at (i : S1024x1024.Idx) :
    (V m c main_v38 : S1024x1024.Idx → EReal) i = (m ((c : Thread nD τ).loc main_arg9) : S1024x1024.Idx → EReal) i := by
  entry_read
  rfl

theorem v39_at (k : Fin 1024) :
    (V m c main_v39 : S1x1024.Idx → EReal) (ix2 0 k) = (m ((c : Thread nD τ).loc main_arg10) : S1024.Idx → EReal) (ix1 k) := by
  entry_read
  pointwise

theorem v40_at (i : S1024x4096.Idx) :
    (V m c main_v40 : S1024x4096.Idx → EReal) i = (m ((c : Thread nD τ).loc main_arg11) : S1024x4096.Idx → EReal) i := by
  entry_read
  rfl

theorem v41_at (i : S4096x1024.Idx) :
    (V m c main_v41 : S4096x1024.Idx → EReal) i = (m ((c : Thread nD τ).loc main_arg12) : S4096x1024.Idx → EReal) i := by
  entry_read
  rfl

theorem v42_at (k : Fin 1024) :
    (V m c main_v42 : S1x1024.Idx → EReal) (ix2 0 k) = (m ((c : Thread nD τ).loc main_arg13) : S1024.Idx → EReal) (ix1 k) := by
  entry_read
  pointwise

/-- The batch entry of a grid point. -/
def gb (t : Fin cfg0.N) : Fin 2 := ⟨t.val / 16, by have : t.val < 32 := t.isLt; omega⟩
/-- The place in the sequence of a row of a grid point's block. -/
def gp (t : Fin cfg0.N) (r : Fin 512) : Fin 8192 := ⟨t.val % 16 * 512 + r.val, by omega⟩
/-- The step of the dilated pattern a row of a grid point's block lies at. -/
def gq (t : Fin cfg0.N) (r : Fin 512) : Fin 2048 := ⟨t.val % 16 * 128 + r.val / 4, by omega⟩

theorem gq_eq (t : Fin cfg0.N) (r : Fin 512) : (⟨(gq t r).val * 4 + (⟨r.val % 4, by omega⟩ : Fin 4).val, by have := (gq t r).isLt; omega⟩ : Fin 8192) = gp t r :=
  Fin.ext (by unfold gq gp; show (t.val % 16 * 128 + r.val / 4) * 4 + r.val % 4 = t.val % 16 * 512 + r.val; omega)

theorem idx2 : ∀ t : Fin cfg0.N, win0_2.index t (0 : Fin 5) = t.val / 16 ∧ win0_2.index t (1 : Fin 5) = 0 ∧ win0_2.index t (2 : Fin 5) = 0 ∧ win0_2.index t (3 : Fin 5) = t.val % 16 ∧ win0_2.index t (4 : Fin 5) = 0 :=
  (by decide +kernel : ∀ t : Fin grid0.N, _)

theorem emb2 (t : Fin cfg0.N) (r k : Fin 512) : ((cfg0.win 2).blk t).view.emb (ix5 0 0 (sl k) r (ln k)) = ix5 (gb t) 0 (sl k) (gp t r) (ln k) := by
  obtain ⟨e0, e1, e2, e3, e4⟩ := idx2 t
  funext a; apply Fin.ext
  match a with
  | ⟨0, _⟩ => show win0_2.index t (0 : Fin 5) * 1 + 1 * 0 = t.val / 16; omega
  | ⟨1, _⟩ => show win0_2.index t (1 : Fin 5) * 1 + 1 * 0 = 0; omega
  | ⟨2, _⟩ => show win0_2.index t (2 : Fin 5) * 4 + 1 * (sl k).val = (sl k).val; omega
  | ⟨3, _⟩ => show win0_2.index t (3 : Fin 5) * 512 + 1 * r.val = t.val % 16 * 512 + r.val; omega
  | ⟨4, _⟩ => show win0_2.index t (4 : Fin 5) * 128 + 1 * (ln k).val = (ln k).val; omega

theorem rd2 (t : Fin cfg0.N) (A : S2x1x4x8192x128.Idx → EReal) (i : S1x1x4x512x128.Idx) :
    (((cfg0.win 2).blk t).view.read (Elt Ideal) A : S1x1x4x512x128.Idx → EReal) i = A (((cfg0.win 2).blk t).view.emb i) := rfl

theorem w2_at (t : Fin cfg0.N) (r k : Fin 512) :
    (iblk m c 2 t : S1x1x4x512x128.Idx → EReal) (ix5 0 0 (sl k) r (ln k))
      = (m ((c : Thread nD τ).loc main_arg2) : S2x8192x8x64.Idx → EReal) (ix4 (gb t) (gp t r) (hd k) (dm k)) :=
  (rd2 t (V m c main_v2) _).trans ((congrArg (V m c main_v2) (emb2 t r k)).trans (v2_at m c (gb t) (gp t r) k))

theorem idx3 : ∀ t : Fin cfg0.N, win0_3.index t (0 : Fin 5) = t.val / 16 ∧ win0_3.index t (1 : Fin 5) = 0 ∧ win0_3.index t (2 : Fin 5) = 0 ∧ win0_3.index t (3 : Fin 5) = t.val % 16 ∧ win0_3.index t (4 : Fin 5) = 0 :=
  (by decide +kernel : ∀ t : Fin grid0.N, _)

theorem emb3 (t : Fin cfg0.N) (r k : Fin 512) : ((cfg0.win 3).blk t).view.emb (ix5 0 0 (sl k) r (ln k)) = ix5 (gb t) 0 (sl k) (gp t r) (ln k) := by
  obtain ⟨e0, e1, e2, e3, e4⟩ := idx3 t
  funext a; apply Fin.ext
  match a with
  | ⟨0, _⟩ => show win0_3.index t (0 : Fin 5) * 1 + 1 * 0 = t.val / 16; omega
  | ⟨1, _⟩ => show win0_3.index t (1 : Fin 5) * 1 + 1 * 0 = 0; omega
  | ⟨2, _⟩ => show win0_3.index t (2 : Fin 5) * 4 + 1 * (sl k).val = (sl k).val; omega
  | ⟨3, _⟩ => show win0_3.index t (3 : Fin 5) * 512 + 1 * r.val = t.val % 16 * 512 + r.val; omega
  | ⟨4, _⟩ => show win0_3.index t (4 : Fin 5) * 128 + 1 * (ln k).val = (ln k).val; omega

theorem rd3 (t : Fin cfg0.N) (A : S2x1x4x8192x128.Idx → EReal) (i : S1x1x4x512x128.Idx) :
    (((cfg0.win 3).blk t).view.read (Elt Ideal) A : S1x1x4x512x128.Idx → EReal) i = A (((cfg0.win 3).blk t).view.emb i) := rfl

theorem w3_at (t : Fin cfg0.N) (r k : Fin 512) :
    (iblk m c 3 t : S1x1x4x512x128.Idx → EReal) (ix5 0 0 (sl k) r (ln k))
      = (m ((c : Thread nD τ).loc main_arg3) : S2x8192x8x64.Idx → EReal) (ix4 (gb t) (gp t r) (hd k) (dm k)) :=
  (rd3 t (V m c main_v5) _).trans ((congrArg (V m c main_v5) (emb3 t r k)).trans (v5_at m c (gb t) (gp t r) k))

theorem idx5 : ∀ t : Fin cfg0.N, win0_5.index t (0 : Fin 5) = t.val / 16 ∧ win0_5.index t (1 : Fin 5) = 0 ∧ win0_5.index t (2 : Fin 5) = 0 ∧ win0_5.index t (3 : Fin 5) = t.val % 16 ∧ win0_5.index t (4 : Fin 5) = 0 :=
  (by decide +kernel : ∀ t : Fin grid0.N, _)

theorem emb5 (t : Fin cfg0.N) (r k : Fin 512) : ((cfg0.win 5).blk t).view.emb (ix5 0 0 (sl k) r (ln k)) = ix5 (gb t) 0 (sl k) (gp t r) (ln k) := by
  obtain ⟨e0, e1, e2, e3, e4⟩ := idx5 t
  funext a; apply Fin.ext
  match a with
  | ⟨0, _⟩ => show win0_5.index t (0 : Fin 5) * 1 + 1 * 0 = t.val / 16; omega
  | ⟨1, _⟩ => show win0_5.index t (1 : Fin 5) * 1 + 1 * 0 = 0; omega
  | ⟨2, _⟩ => show win0_5.index t (2 : Fin 5) * 4 + 1 * (sl k).val = (sl k).val; omega
  | ⟨3, _⟩ => show win0_5.index t (3 : Fin 5) * 512 + 1 * r.val = t.val % 16 * 512 + r.val; omega
  | ⟨4, _⟩ => show win0_5.index t (4 : Fin 5) * 128 + 1 * (ln k).val = (ln k).val; omega

theorem rd5 (t : Fin cfg0.N) (A : S2x1x4x8192x128.Idx → EReal) (i : S1x1x4x512x128.Idx) :
    (((cfg0.win 5).blk t).view.read (Elt Ideal) A : S1x1x4x512x128.Idx → EReal) i = A (((cfg0.win 5).blk t).view.emb i) := rfl

theorem w5_at (t : Fin cfg0.N) (r k : Fin 512) :
    (iblk m c 5 t : S1x1x4x512x128.Idx → EReal) (ix5 0 0 (sl k) r (ln k))
      = Ideal.div ((m ((c : Thread nD τ).loc main_arg5) : S2x8x8192.Idx → EReal) (ix3 (gb t) (hd k) (gp t r))) ln2 :=
  (rd5 t (V m c main_v17) _).trans ((congrArg (V m c main_v17) (emb5 t r k)).trans (v17_at m c (gb t) (gp t r) k))

theorem idx6 : ∀ t : Fin cfg0.N, win0_6.index t (0 : Fin 5) = t.val / 16 ∧ win0_6.index t (1 : Fin 5) = 0 ∧ win0_6.index t (2 : Fin 5) = 0 ∧ win0_6.index t (3 : Fin 5) = t.val % 16 ∧ win0_6.index t (4 : Fin 5) = 0 :=
  (by decide +kernel : ∀ t : Fin grid0.N, _)

theorem emb6 (t : Fin cfg0.N) (r k : Fin 512) : ((cfg0.win 6).blk t).view.emb (ix5 0 0 (sl k) r (ln k)) = ix5 (gb t) 0 (sl k) (gp t r) (ln k) := by
  obtain ⟨e0, e1, e2, e3, e4⟩ := idx6 t
  funext a; apply Fin.ext
  match a with
  | ⟨0, _⟩ => show win0_6.index t (0 : Fin 5) * 1 + 1 * 0 = t.val / 16; omega
  | ⟨1, _⟩ => show win0_6.index t (1 : Fin 5) * 1 + 1 * 0 = 0; omega
  | ⟨2, _⟩ => show win0_6.index t (2 : Fin 5) * 4 + 1 * (sl k).val = (sl k).val; omega
  | ⟨3, _⟩ => show win0_6.index t (3 : Fin 5) * 512 + 1 * r.val = t.val % 16 * 512 + r.val; omega
  | ⟨4, _⟩ => show win0_6.index t (4 : Fin 5) * 128 + 1 * (ln k).val = (ln k).val; omega

theorem rd6 (t : Fin cfg0.N) (A : S2x1x4x8192x128.Idx → EReal) (i : S1x1x4x512x128.Idx) :
    (((cfg0.win 6).blk t).view.read (Elt Ideal) A : S1x1x4x512x128.Idx → EReal) i = A (((cfg0.win 6).blk t).view.emb i) := rfl

theorem w6_at (t : Fin cfg0.N) (r k : Fin 512) :
    (iblk m c 6 t : S1x1x4x512x128.Idx → EReal) (ix5 0 0 (sl k) r (ln k))
      = Ideal.div ((m ((c : Thread nD τ).loc main_arg6) : S2x8x8192.Idx → EReal) (ix3 (gb t) (hd k) (gp t r))) ln2 :=
  (rd6 t (V m c main_v26) _).trans ((congrArg (V m c main_v26) (emb6 t r k)).trans (v26_at m c (gb t) (gp t r) k))

theorem idx4 : ∀ t : Fin cfg0.N, win0_4.index t (0 : Fin 5) = t.val / 16 ∧ win0_4.index t (1 : Fin 5) = 0 ∧ win0_4.index t (2 : Fin 5) = 0 ∧ win0_4.index t (3 : Fin 5) = t.val % 16 ∧ win0_4.index t (4 : Fin 5) = 0 :=
  (by decide +kernel : ∀ t : Fin grid0.N, _)

theorem emb4 (t : Fin cfg0.N) (r k : Fin 512) : ((cfg0.win 4).blk t).view.emb (ix5 0 (⟨r.val % 4, by omega⟩ : Fin 4) (sl k) (⟨r.val / 4, by omega⟩ : Fin 128) (ln k)) = ix5 (gb t) (⟨r.val % 4, by omega⟩ : Fin 4) (sl k) (gq t r) (ln k) := by
  obtain ⟨e0, e1, e2, e3, e4⟩ := idx4 t
  funext a; apply Fin.ext
  match a with
  | ⟨0, _⟩ => show win0_4.index t (0 : Fin 5) * 1 + 1 * 0 = t.val / 16; omega
  | ⟨1, _⟩ => show win0_4.index t (1 : Fin 5) * 4 + 1 * (r.val % 4) = r.val % 4; omega
  | ⟨2, _⟩ => show win0_4.index t (2 : Fin 5) * 4 + 1 * (sl k).val = (sl k).val; omega
  | ⟨3, _⟩ => show win0_4.index t (3 : Fin 5) * 128 + 1 * (r.val / 4) = t.val % 16 * 128 + r.val / 4; omega
  | ⟨4, _⟩ => show win0_4.index t (4 : Fin 5) * 128 + 1 * (ln k).val = (ln k).val; omega

theorem rd4 (t : Fin cfg0.N) (A : S2x4x4x2048x128.Idx → EReal) (i : S1x4x4x128x128.Idx) :
    (((cfg0.win 4).blk t).view.read (Elt Ideal) A : S1x4x4x128x128.Idx → EReal) i = A (((cfg0.win 4).blk t).view.emb i) := rfl

theorem w4_at (t : Fin cfg0.N) (r k : Fin 512) :
    (iblk m c 4 t : S1x4x4x128x128.Idx → EReal) (ix5 0 (⟨r.val % 4, by omega⟩ : Fin 4) (sl k) (⟨r.val / 4, by omega⟩ : Fin 128) (ln k))
      = (m ((c : Thread nD τ).loc main_arg4) : S2x8192x8x64.Idx → EReal) (ix4 (gb t) (gp t r) (hd k) (dm k)) :=
  (rd4 t (V m c main_v8) _).trans ((congrArg (V m c main_v8) (emb4 t r k)).trans ((v8_at m c (gb t) (⟨r.val % 4, by omega⟩ : Fin 4) (gq t r) k).trans (by rw [gq_eq])))

theorem idx7 : ∀ t : Fin cfg0.N, win0_7.index t (0 : Fin 5) = t.val / 16 ∧ win0_7.index t (1 : Fin 5) = 0 ∧ win0_7.index t (2 : Fin 5) = 0 ∧ win0_7.index t (3 : Fin 5) = t.val % 16 ∧ win0_7.index t (4 : Fin 5) = 0 :=
  (by decide +kernel : ∀ t : Fin grid0.N, _)

theorem emb7 (t : Fin cfg0.N) (r k : Fin 512) : ((cfg0.win 7).blk t).view.emb (ix5 0 (⟨r.val % 4, by omega⟩ : Fin 4) (sl k) (⟨r.val / 4, by omega⟩ : Fin 128) (ln k)) = ix5 (gb t) (⟨r.val % 4, by omega⟩ : Fin 4) (sl k) (gq t r) (ln k) := by
  obtain ⟨e0, e1, e2, e3, e4⟩ := idx7 t
  funext a; apply Fin.ext
  match a with
  | ⟨0, _⟩ => show win0_7.index t (0 : Fin 5) * 1 + 1 * 0 = t.val / 16; omega
  | ⟨1, _⟩ => show win0_7.index t (1 : Fin 5) * 4 + 1 * (r.val % 4) = r.val % 4; omega
  | ⟨2, _⟩ => show win0_7.index t (2 : Fin 5) * 4 + 1 * (sl k).val = (sl k).val; omega
  | ⟨3, _⟩ => show win0_7.index t (3 : Fin 5) * 128 + 1 * (r.val / 4) = t.val % 16 * 128 + r.val / 4; omega
  | ⟨4, _⟩ => show win0_7.index t (4 : Fin 5) * 128 + 1 * (ln k).val = (ln k).val; omega

theorem rd7 (t : Fin cfg0.N) (A : S2x4x4x2048x128.Idx → EReal) (i : S1x4x4x128x128.Idx) :
    (((cfg0.win 7).blk t).view.read (Elt Ideal) A : S1x4x4x128x128.Idx → EReal) i = A (((cfg0.win 7).blk t).view.emb i) := rfl

theorem w7_at (t : Fin cfg0.N) (r k : Fin 512) :
    (iblk m c 7 t : S1x4x4x128x128.Idx → EReal) (ix5 0 (⟨r.val % 4, by omega⟩ : Fin 4) (sl k) (⟨r.val / 4, by omega⟩ : Fin 128) (ln k))
      = Ideal.div ((m ((c : Thread nD τ).loc main_arg7) : S2x8x8192.Idx → EReal) (ix3 (gb t) (hd k) (gp t r))) ln2 :=
  (rd7 t (V m c main_v35) _).trans ((congrArg (V m c main_v35) (emb7 t r k)).trans ((v35_at m c (gb t) (⟨r.val % 4, by omega⟩ : Fin 4) (gq t r) k).trans (by rw [gq_eq])))

theorem idx0 : ∀ t : Fin cfg0.N, win0_0.index t (0 : Fin 3) = t.val / 16 ∧ win0_0.index t (1 : Fin 3) = t.val % 16 ∧ win0_0.index t (2 : Fin 3) = 0 :=
  (by decide +kernel : ∀ t : Fin grid0.N, _)

theorem emb0 (t : Fin cfg0.N) (r : Fin 512) (j : Fin 1024) : ((cfg0.win 0).blk t).view.emb (ix3 0 r j) = ix3 (gb t) (gp t r) j := by
  obtain ⟨e0, e1, e2⟩ := idx0 t
  funext a; apply Fin.ext
  match a with
  | ⟨0, _⟩ => show win0_0.index t (0 : Fin 3) * 1 + 1 * 0 = t.val / 16; omega
  | ⟨1, _⟩ => show win0_0.index t (1 : Fin 3) * 512 + 1 * r.val = t.val % 16 * 512 + r.val; omega
  | ⟨2, _⟩ => show win0_0.index t (2 : Fin 3) * 1024 + 1 * j.val = j.val; omega

theorem rd0 (t : Fin cfg0.N) (A : S2x8192x1024.Idx → EReal) (i : S1x512x1024.Idx) :
    (((cfg0.win 0).blk t).view.read (Elt Ideal) A : S1x512x1024.Idx → EReal) i = A (((cfg0.win 0).blk t).view.emb i) := rfl

theorem w0_at (t : Fin cfg0.N) (r : Fin 512) (j : Fin 1024) :
    (iblk m c 0 t : S1x512x1024.Idx → EReal) (ix3 0 r j)
      = (m ((c : Thread nD τ).loc main_arg0) : S2x8192x1024.Idx → EReal) (ix3 (gb t) (gp t r) j) :=
  (rd0 t (V m c main_arg0) _).trans ((congrArg (V m c main_arg0) (emb0 t r j)).trans (congrFun (V_main_arg0 m c) _))

theorem idx1 : ∀ t : Fin cfg0.N, win0_1.index t (0 : Fin 3) = t.val / 16 ∧ win0_1.index t (1 : Fin 3) = t.val % 16 ∧ win0_1.index t (2 : Fin 3) = 0 :=
  (by decide +kernel : ∀ t : Fin grid0.N, _)

theorem emb1 (t : Fin cfg0.N) (r k : Fin 512) : ((cfg0.win 1).blk t).view.emb (ix3 0 r k) = ix3 (gb t) (gp t r) k := by
  obtain ⟨e0, e1, e2⟩ := idx1 t
  funext a; apply Fin.ext
  match a with
  | ⟨0, _⟩ => show win0_1.index t (0 : Fin 3) * 1 + 1 * 0 = t.val / 16; omega
  | ⟨1, _⟩ => show win0_1.index t (1 : Fin 3) * 512 + 1 * r.val = t.val % 16 * 512 + r.val; omega
  | ⟨2, _⟩ => show win0_1.index t (2 : Fin 3) * 512 + 1 * k.val = k.val; omega

theorem rd1 (t : Fin cfg0.N) (A : S2x8192x512.Idx → EReal) (i : S1x512x512.Idx) :
    (((cfg0.win 1).blk t).view.read (Elt Ideal) A : S1x512x512.Idx → EReal) i = A (((cfg0.win 1).blk t).view.emb i) := rfl

theorem w1_at (t : Fin cfg0.N) (r k : Fin 512) :
    (iblk m c 1 t : S1x512x512.Idx → EReal) (ix3 0 r k)
      = (m ((c : Thread nD τ).loc main_arg1) : S2x8192x512.Idx → EReal) (ix3 (gb t) (gp t r) k) :=
  (rd1 t (V m c main_v36) _).trans ((congrArg (V m c main_v36) (emb1 t r k)).trans (v36_at m c _))

theorem idx8 : ∀ t : Fin cfg0.N, win0_8.index t (0 : Fin 2) = 0 ∧ win0_8.index t (1 : Fin 2) = 0 :=
  (by decide +kernel : ∀ t : Fin grid0.N, _)

theorem emb8 (t : Fin cfg0.N) (k : Fin 512) : ((cfg0.win 8).blk t).view.emb (ix2 0 k) = ix2 0 k := by
  obtain ⟨e0, e1⟩ := idx8 t
  funext a; apply Fin.ext
  match a with
  | ⟨0, _⟩ => show win0_8.index t (0 : Fin 2) * 1 + 1 * 0 = 0; omega
  | ⟨1, _⟩ => show win0_8.index t (1 : Fin 2) * 512 + 1 * k.val = k.val; omega

theorem rd8 (t : Fin cfg0.N) (A : S1x512.Idx → EReal) (i : S1x512.Idx) :
    (((cfg0.win 8).blk t).view.read (Elt Ideal) A : S1x512.Idx → EReal) i = A (((cfg0.win 8).blk t).view.emb i) := rfl

theorem w8_at (t : Fin cfg0.N) (k : Fin 512) :
    (iblk m c 8 t : S1x512.Idx → EReal) (ix2 0 k)
      = (m ((c : Thread nD τ).loc main_arg8) : S512.Idx → EReal) (ix1 k) :=
  (rd8 t (V m c main_v37) _).trans ((congrArg (V m c main_v37) (emb8 t k)).trans (v37_at m c k))

theorem idx10 : ∀ t : Fin cfg0.N, win0_10.index t (0 : Fin 2) = 0 ∧ win0_10.index t (1 : Fin 2) = 0 :=
  (by decide +kernel : ∀ t : Fin grid0.N, _)

theorem emb10 (t : Fin cfg0.N) (k : Fin 1024) : ((cfg0.win 10).blk t).view.emb (ix2 0 k) = ix2 0 k := by
  obtain ⟨e0, e1⟩ := idx10 t
  funext a; apply Fin.ext
  match a with
  | ⟨0, _⟩ => show win0_10.index t (0 : Fin 2) * 1 + 1 * 0 = 0; omega
  | ⟨1, _⟩ => show win0_10.index t (1 : Fin 2) * 1024 + 1 * k.val = k.val; omega

theorem rd10 (t : Fin cfg0.N) (A : S1x1024.Idx → EReal) (i : S1x1024.Idx) :
    (((cfg0.win 10).blk t).view.read (Elt Ideal) A : S1x1024.Idx → EReal) i = A (((cfg0.win 10).blk t).view.emb i) := rfl

theorem w10_at (t : Fin cfg0.N) (k : Fin 1024) :
    (iblk m c 10 t : S1x1024.Idx → EReal) (ix2 0 k)
      = (m ((c : Thread nD τ).loc main_arg10) : S1024.Idx → EReal) (ix1 k) :=
  (rd10 t (V m c main_v39) _).trans ((congrArg (V m c main_v39) (emb10 t k)).trans (v39_at m c k))

theorem idx13 : ∀ t : Fin cfg0.N, win0_13.index t (0 : Fin 2) = 0 ∧ win0_13.index t (1 : Fin 2) = 0 :=
  (by decide +kernel : ∀ t : Fin grid0.N, _)

theorem emb13 (t : Fin cfg0.N) (k : Fin 1024) : ((cfg0.win 13).blk t).view.emb (ix2 0 k) = ix2 0 k := by
  obtain ⟨e0, e1⟩ := idx13 t
  funext a; apply Fin.ext
  match a with
  | ⟨0, _⟩ => show win0_13.index t (0 : Fin 2) * 1 + 1 * 0 = 0; omega
  | ⟨1, _⟩ => show win0_13.index t (1 : Fin 2) * 1024 + 1 * k.val = k.val; omega

theorem rd13 (t : Fin cfg0.N) (A : S1x1024.Idx → EReal) (i : S1x1024.Idx) :
    (((cfg0.win 13).blk t).view.read (Elt Ideal) A : S1x1024.Idx → EReal) i = A (((cfg0.win 13).blk t).view.emb i) := rfl

theorem w13_at (t : Fin cfg0.N) (k : Fin 1024) :
    (iblk m c 13 t : S1x1024.Idx → EReal) (ix2 0 k)
      = (m ((c : Thread nD τ).loc main_arg13) : S1024.Idx → EReal) (ix1 k) :=
  (rd13 t (V m c main_v42) _).trans ((congrArg (V m c main_v42) (emb13 t k)).trans (v42_at m c k))

theorem idx9 : ∀ t : Fin cfg0.N, win0_9.index t (0 : Fin 2) = 0 ∧ win0_9.index t (1 : Fin 2) = 0 :=
  (by decide +kernel : ∀ t : Fin grid0.N, _)

theorem emb9 (t : Fin cfg0.N) (k : Fin 1024) (j : Fin 1024) : ((cfg0.win 9).blk t).view.emb (ix2 k j) = ix2 k j := by
  obtain ⟨e0, e1⟩ := idx9 t
  funext a; apply Fin.ext
  match a with
  | ⟨0, _⟩ => show win0_9.index t (0 : Fin 2) * 1024 + 1 * k.val = k.val; omega
  | ⟨1, _⟩ => show win0_9.index t (1 : Fin 2) * 1024 + 1 * j.val = j.val; omega

theorem rd9 (t : Fin cfg0.N) (A : S1024x1024.Idx → EReal) (i : S1024x1024.Idx) :
    (((cfg0.win 9).blk t).view.read (Elt Ideal) A : S1024x1024.Idx → EReal) i = A (((cfg0.win 9).blk t).view.emb i) := rfl

theorem w9_at (t : Fin cfg0.N) (k : Fin 1024) (j : Fin 1024) :
    (iblk m c 9 t : S1024x1024.Idx → EReal) (ix2 k j)
      = (m ((c : Thread nD τ).loc main_arg9) : S1024x1024.Idx → EReal) (ix2 k j) :=
  (rd9 t (V m c main_v38) _).trans ((congrArg (V m c main_v38) (emb9 t k j)).trans (v38_at m c _))

theorem idx11 : ∀ t : Fin cfg0.N, win0_11.index t (0 : Fin 2) = 0 ∧ win0_11.index t (1 : Fin 2) = 0 :=
  (by decide +kernel : ∀ t : Fin grid0.N, _)

theorem emb11 (t : Fin cfg0.N) (k : Fin 1024) (j : Fin 4096) : ((cfg0.win 11).blk t).view.emb (ix2 k j) = ix2 k j := by
  obtain ⟨e0, e1⟩ := idx11 t
  funext a; apply Fin.ext
  match a with
  | ⟨0, _⟩ => show win0_11.index t (0 : Fin 2) * 1024 + 1 * k.val = k.val; omega
  | ⟨1, _⟩ => show win0_11.index t (1 : Fin 2) * 4096 + 1 * j.val = j.val; omega

theorem rd11 (t : Fin cfg0.N) (A : S1024x4096.Idx → EReal) (i : S1024x4096.Idx) :
    (((cfg0.win 11).blk t).view.read (Elt Ideal) A : S1024x4096.Idx → EReal) i = A (((cfg0.win 11).blk t).view.emb i) := rfl

theorem w11_at (t : Fin cfg0.N) (k : Fin 1024) (j : Fin 4096) :
    (iblk m c 11 t : S1024x4096.Idx → EReal) (ix2 k j)
      = (m ((c : Thread nD τ).loc main_arg11) : S1024x4096.Idx → EReal) (ix2 k j) :=
  (rd11 t (V m c main_v40) _).trans ((congrArg (V m c main_v40) (emb11 t k j)).trans (v40_at m c _))

theorem idx12 : ∀ t : Fin cfg0.N, win0_12.index t (0 : Fin 2) = 0 ∧ win0_12.index t (1 : Fin 2) = 0 :=
  (by decide +kernel : ∀ t : Fin grid0.N, _)

theorem emb12 (t : Fin cfg0.N) (k : Fin 4096) (j : Fin 1024) : ((cfg0.win 12).blk t).view.emb (ix2 k j) = ix2 k j := by
  obtain ⟨e0, e1⟩ := idx12 t
  funext a; apply Fin.ext
  match a with
  | ⟨0, _⟩ => show win0_12.index t (0 : Fin 2) * 4096 + 1 * k.val = k.val; omega
  | ⟨1, _⟩ => show win0_12.index t (1 : Fin 2) * 1024 + 1 * j.val = j.val; omega

theorem rd12 (t : Fin cfg0.N) (A : S4096x1024.Idx → EReal) (i : S4096x1024.Idx) :
    (((cfg0.win 12).blk t).view.read (Elt Ideal) A : S4096x1024.Idx → EReal) i = A (((cfg0.win 12).blk t).view.emb i) := rfl

theorem w12_at (t : Fin cfg0.N) (k : Fin 4096) (j : Fin 1024) :
    (iblk m c 12 t : S4096x1024.Idx → EReal) (ix2 k j)
      = (m ((c : Thread nD τ).loc main_arg12) : S4096x1024.Idx → EReal) (ix2 k j) :=
  (rd12 t (V m c main_v41) _).trans ((congrArg (V m c main_v41) (emb12 t k j)).trans (v41_at m c _))

end Cert.Mlp

end
-- ==== Proof.Mlp.RefRead.lean ====
/- The reference program's closing stage, row by row. -/
module

public import proofs.«01_k».proof.Proof.Gen.Reference2Ideal.Read
public import proofs.«01_k».proof.Proof.Mlp.Soft

@[expose] public section

noncomputable section

namespace Cert.Mlp

open Cert.Reference2Ideal Cert.Reference2Ideal.Gen Cert.Reference2Ideal.Read
open Idealize.ShloMosaic

variable (x0 : (⟨S2x8192x1024, .f32⟩ : BufTy).Contents (Elt Ideal)) (x1 : (⟨S2x8192x512, .f32⟩ : BufTy).Contents (Elt Ideal))
  (x2 x3 x4 : (⟨S2x8192x8x64, .f32⟩ : BufTy).Contents (Elt Ideal)) (x5 x6 x7 : (⟨S2x8x8192, .f32⟩ : BufTy).Contents (Elt Ideal))
  (x8 : (⟨S512, .f32⟩ : BufTy).Contents (Elt Ideal)) (x9 : (⟨S1024x1024, .f32⟩ : BufTy).Contents (Elt Ideal))
  (x10 : (⟨S1024, .f32⟩ : BufTy).Contents (Elt Ideal)) (x11 : (⟨S1024x4096, .f32⟩ : BufTy).Contents (Elt Ideal))
  (x12 : (⟨S4096x1024, .f32⟩ : BufTy).Contents (Elt Ideal)) (x13 : (⟨S1024, .f32⟩ : BufTy).Contents (Elt Ideal))
  (b : Fin 2) (p : Fin 8192)

/-- The greatest of three, as a fold from the least value, compared once more with the least value. -/
theorem fold3 (f : Fin 3 → EReal) :
    max (Ideal.ofBits .f32 0xFF800000#32) (Finset.fold max (Ideal.ofBits .f32 0xFF800000#32) f Finset.univ) = max (max (f 0) (f 1)) (f 2) := by
  rw [ofBits_bot]
  have hu : (Finset.univ : Finset (Fin 3)) = {0, 1, 2} := rfl
  rw [hu, Finset.fold_insert (by decide), Finset.fold_insert (by decide), Finset.fold_singleton]
  simp [max_assoc]

theorem v23_at (h : Fin 8) (d : Fin 64) : val_main_v23 (F := Ideal) x2 x3 x4 x5 x6 x7 (ix4 b p h d)
    = mixE (x5 (ix3 b h p)) (x6 (ix3 b h p)) (x7 (ix3 b h p)) (x2 (ix4 b p h d)) (x3 (ix4 b p h d)) (x4 (ix4 b p h d)) := by
  pointwise [val_main_v23, val_main_v22, val_main_v21, val_main_v20, val_main_v19, val_main_v18, val_main_v17, val_main_v16, val_main_v15, val_main_v14,
    val_main_v13, val_main_v12, val_main_v11, val_main_v10, val_main_v9, val_main_v8, val_main_v7, val_main_v6, val_main_v5, val_main_v4, val_main_v3, val_main_v2, val_main_v1, val_main_v0,
    val_main_cst, val_main_cst_0, val_main_cst_1, val_main_cst_2]
  rw [fold3, Fin.sum_univ_three, Fin.sum_univ_three]
  rfl

theorem v24_at (k : Fin 512) : val_main_v24 (F := Ideal) x2 x3 x4 x5 x6 x7 (ix3 b p k) = val_main_v23 (F := Ideal) x2 x3 x4 x5 x6 x7 (ix4 b p ⟨k.val / 64, by omega⟩ ⟨k.val % 64, by omega⟩) := by
  unfold val_main_v24
  generalize val_main_v23 x2 x3 x4 x5 x6 x7 = w
  pointwise

theorem v37_ref (k : Fin 512) : val_main_v37 (F := Ideal) x2 x3 x4 x5 x6 x7 x8 (ix3 b p k)
    = rms 0x44000000#32 (fun k => val_main_v24 (F := Ideal) x2 x3 x4 x5 x6 x7 (ix3 b p k)) (fun k => x8 (ix1 k)) k := by
  obtain ⟨w, hw⟩ : ∃ w, w = val_main_v24 (F := Ideal) x2 x3 x4 x5 x6 x7 := ⟨_, rfl⟩
  unfold val_main_v37 val_main_v34 val_main_v33 val_main_v32 val_main_v31 val_main_v29 val_main_v27 val_main_v26 val_main_v25
  rw [← hw]
  clear hw
  pointwise [val_main_v36, val_main_v35, val_main_v30, val_main_v28, val_main_cst_3, val_main_cst_4, val_main_cst_5]
  rfl

theorem v40_ref (j : Fin 1024) : val_main_v40 (F := Ideal) x0 x1 x2 x3 x4 x5 x6 x7 x8 x9 (ix3 b p j)
    = resid (fun k => val_main_v24 (F := Ideal) x2 x3 x4 x5 x6 x7 (ix3 b p k)) (fun k => x1 (ix3 b p k)) (fun k => x8 (ix1 k)) (fun k j => x9 (ix2 k j)) (fun j => x0 (ix3 b p j)) j := by
  unfold val_main_v40 val_main_v39 val_main_v38
  have e := fun k => v37_ref x2 x3 x4 x5 x6 x7 x8 b p k
  revert e
  generalize val_main_v37 x2 x3 x4 x5 x6 x7 x8 = w
  intro e
  pointwise
  rw [add_comm]
  simp only [e]
  rfl

/-- A sum over the hidden channels, group by group. -/
theorem sum_hid (f : Fin 4096 → EReal) :
    ∑ u, f u = ∑ k, f (hid 0 k) + ∑ k, f (hid 1 k) + ∑ k, f (hid 2 k) + ∑ k, f (hid 3 k) := by
  rw [← Fin.sum_univ_four (fun t => ∑ k, f (hid t k)), ← Fintype.sum_prod_type' (fun t k => f (hid t k))]
  refine (Fintype.sum_equiv (finProdFinEquiv (m := 4) (n := 1024)) _ _ fun x => congrArg f (Fin.ext ?_)).symm
  show 1024 * x.1.val + x.2.val = x.2.val + 1024 * x.1.val
  omega

theorem v53_ref (j : Fin 1024) : val_main_v53 (F := Ideal) x0 x1 x2 x3 x4 x5 x6 x7 x8 x9 x10 (ix3 b p j)
    = rms 0x44800000#32 (fun k => val_main_v40 (F := Ideal) x0 x1 x2 x3 x4 x5 x6 x7 x8 x9 (ix3 b p k)) (fun k => x10 (ix1 k)) j := by
  obtain ⟨w, hw⟩ : ∃ w, w = val_main_v40 (F := Ideal) x0 x1 x2 x3 x4 x5 x6 x7 x8 x9 := ⟨_, rfl⟩
  unfold val_main_v53 val_main_v50 val_main_v49 val_main_v48 val_main_v47 val_main_v45 val_main_v43 val_main_v42 val_main_v41
  rw [← hw]
  clear hw
  pointwise [val_main_v52, val_main_v51, val_main_v46, val_main_v44, val_main_call0_cst, val_main_call0_v0, val_main_cst_10, val_main_cst_11, val_main_cst_3, val_main_cst_4, val_main_cst_5, val_main_cst_6, val_main_cst_7, val_main_cst_8, val_main_cst_9]
  rfl

theorem v58_ref (j : Fin 1024) : val_main_v58 (F := Ideal) x0 x1 x2 x3 x4 x5 x6 x7 x8 x9 x10 x11 x12 (ix3 b p j)
    = after (fun k => val_main_v40 (F := Ideal) x0 x1 x2 x3 x4 x5 x6 x7 x8 x9 (ix3 b p k)) (fun k => x10 (ix1 k)) (fun k j => x11 (ix2 k j)) (fun k j => x12 (ix2 k j)) j := by
  unfold val_main_v58 val_main_v57 val_main_v56 val_main_v55 val_main_v54
  have e := fun k => v53_ref x0 x1 x2 x3 x4 x5 x6 x7 x8 x9 x10 b p k
  revert e
  generalize val_main_v53 x0 x1 x2 x3 x4 x5 x6 x7 x8 x9 x10 = w
  generalize val_main_v40 x0 x1 x2 x3 x4 x5 x6 x7 x8 x9 = u
  intro e
  pointwise [val_main_call0_cst, val_main_call0_v0, val_main_cst_10, val_main_cst_11, val_main_cst_3, val_main_cst_4, val_main_cst_5, val_main_cst_6, val_main_cst_7, val_main_cst_8, val_main_cst_9]
  rw [add_comm, sum_hid]
  simp only [e]
  rfl

theorem v71_ref (j : Fin 1024) : val_main_v71 (F := Ideal) x0 x1 x2 x3 x4 x5 x6 x7 x8 x9 x10 x11 x12 x13 (ix3 b p j)
    = rms 0x44800000#32 (fun k => val_main_v58 (F := Ideal) x0 x1 x2 x3 x4 x5 x6 x7 x8 x9 x10 x11 x12 (ix3 b p k)) (fun k => x13 (ix1 k)) j := by
  obtain ⟨w, hw⟩ : ∃ w, w = val_main_v58 (F := Ideal) x0 x1 x2 x3 x4 x5 x6 x7 x8 x9 x10 x11 x12 := ⟨_, rfl⟩
  unfold val_main_v71 val_main_v68 val_main_v67 val_main_v66 val_main_v65 val_main_v63 val_main_v61 val_main_v60 val_main_v59
  rw [← hw]
  clear hw
  pointwise [val_main_v70, val_main_v69, val_main_v64, val_main_v62, val_main_call0_cst, val_main_call0_v0, val_main_cst_10, val_main_cst_11, val_main_cst_3, val_main_cst_4, val_main_cst_5, val_main_cst_6, val_main_cst_7, val_main_cst_8, val_main_cst_9]
  rfl

/-- The reference's result at a place of a batch entry. -/
theorem ref_row (j : Fin 1024) : val_main_v71 (F := Ideal) x0 x1 x2 x3 x4 x5 x6 x7 x8 x9 x10 x11 x12 x13 (ix3 b p j)
    = row (fun k => mixE (x5 (ix3 b ⟨k.val / 64, by omega⟩ p)) (x6 (ix3 b ⟨k.val / 64, by omega⟩ p)) (x7 (ix3 b ⟨k.val / 64, by omega⟩ p))
          (x2 (ix4 b p ⟨k.val / 64, by omega⟩ ⟨k.val % 64, by omega⟩)) (x3 (ix4 b p ⟨k.val / 64, by omega⟩ ⟨k.val % 64, by omega⟩))
          (x4 (ix4 b p ⟨k.val / 64, by omega⟩ ⟨k.val % 64, by omega⟩)))
        (fun k => x1 (ix3 b p k)) (fun k => x8 (ix1 k)) (fun k j => x9 (ix2 k j)) (fun j => x0 (ix3 b p j)) (fun k => x10 (ix1 k)) (fun k => x13 (ix1 k))
        (fun k j => x11 (ix2 k j)) (fun k j => x12 (ix2 k j)) j := by
  rw [v71_ref]
  simp only [v58_ref, v40_ref, v24_at, v23_at]
  rfl

end Cert.Mlp

end
-- ==== Proof.Mlp.Value.lean ====
/- The closing stage and its reference leave equal results. -/
module

public import proofs.«01_k».proof.Proof.Mlp.Host
public import proofs.«01_k».proof.Proof.Mlp.Block
public import proofs.«01_k».proof.Proof.Mlp.RefRead

@[expose] public section

noncomputable section

namespace Cert.Mlp

open Cert.Kernel2Ideal Cert.Kernel2Ideal.Gen Cert.Kernel2Ideal.Value
open Idealize.ShloMosaic Idealize.ShloMosaic.TcCoe Idealize.SL.Sem

variable (m : (ℓ : Loc nD τ sig) → Buf (Elt Ideal) ℓ) (c : Dev nD)

/-- The mixture of the three patterns that a row of a grid point's block takes, in the arguments. -/
theorem mix_at (t : Fin cfg0.N) (r k : Fin 512) :
    mixRow (iblk m c 2 t) (iblk m c 3 t) (iblk m c 4 t) (iblk m c 5 t) (iblk m c 6 t) (iblk m c 7 t) r k
      = mixK (Ideal.div ((m ((c : Thread nD τ).loc main_arg5) : S2x8x8192.Idx → EReal) (ix3 (gb t) (hd k) (gp t r))) ln2)
          (Ideal.div ((m ((c : Thread nD τ).loc main_arg6) : S2x8x8192.Idx → EReal) (ix3 (gb t) (hd k) (gp t r))) ln2)
          (Ideal.div ((m ((c : Thread nD τ).loc main_arg7) : S2x8x8192.Idx → EReal) (ix3 (gb t) (hd k) (gp t r))) ln2)
          ((m ((c : Thread nD τ).loc main_arg2) : S2x8192x8x64.Idx → EReal) (ix4 (gb t) (gp t r) (hd k) (dm k)))
          ((m ((c : Thread nD τ).loc main_arg3) : S2x8192x8x64.Idx → EReal) (ix4 (gb t) (gp t r) (hd k) (dm k)))
          ((m ((c : Thread nD τ).loc main_arg4) : S2x8192x8x64.Idx → EReal) (ix4 (gb t) (gp t r) (hd k) (dm k))) := by
  unfold mixRow
  rw [← w2_at m c t r k, ← w3_at m c t r k, ← w4_at m c t r k, ← w5_at m c t r k, ← w6_at m c t r k, ← w7_at m c t r k]

/-- The reference's result, of the kernel's arguments. -/
def G : S2x8192x1024.Idx → EReal :=
  Cert.Reference2Ideal.Read.val_main_v71 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13))

/-- The greatest of the three logarithmic weights is a number everywhere. -/
def Finite : Prop := ∀ (b : Fin 2) (g : Fin 8) (p : Fin 8192),
  top3 ((m ((c : Thread nD τ).loc main_arg5) : S2x8x8192.Idx → EReal) (ix3 b g p)) ((m ((c : Thread nD τ).loc main_arg6) : S2x8x8192.Idx → EReal) (ix3 b g p))
      ((m ((c : Thread nD τ).loc main_arg7) : S2x8x8192.Idx → EReal) (ix3 b g p)) ≠ ⊥
  ∧ top3 ((m ((c : Thread nD τ).loc main_arg5) : S2x8x8192.Idx → EReal) (ix3 b g p)) ((m ((c : Thread nD τ).loc main_arg6) : S2x8x8192.Idx → EReal) (ix3 b g p))
      ((m ((c : Thread nD τ).loc main_arg7) : S2x8x8192.Idx → EReal) (ix3 b g p)) ≠ ⊤

/-- A block of the output window lies in the result where its grid point says. -/
theorem idx14 : ∀ t : Fin cfg0.N, win0_14.index t (0 : Fin 3) = t.val / 16 ∧ win0_14.index t (1 : Fin 3) = t.val % 16 ∧ win0_14.index t (2 : Fin 3) = 0 :=
  (by decide +kernel : ∀ t : Fin grid0.N, _)

theorem emb14 (t : Fin cfg0.N) (r : Fin 512) (j : Fin 1024) : ((cfg0.win 14).blk t).view.emb (ix3 0 r j) = ix3 (gb t) (gp t r) j := by
  obtain ⟨e0, e1, e2⟩ := idx14 t
  funext a; apply Fin.ext
  match a with
  | ⟨0, _⟩ => show win0_14.index t (0 : Fin 3) * 1 + 1 * 0 = t.val / 16; omega
  | ⟨1, _⟩ => show win0_14.index t (1 : Fin 3) * 512 + 1 * r.val = t.val % 16 * 512 + r.val; omega
  | ⟨2, _⟩ => show win0_14.index t (2 : Fin 3) * 1024 + 1 * j.val = j.val; omega

/-- A row of a grid point's block, in the arguments, is the reference's row. -/
theorem row_at (hfin : Finite m c) (t : Fin cfg0.N) (r : Fin 512) (j : Fin 1024) :
    row (mixRow (iblk m c 2 t) (iblk m c 3 t) (iblk m c 4 t) (iblk m c 5 t) (iblk m c 6 t) (iblk m c 7 t) r) (fun k => (iblk m c 1 t : S1x512x512.Idx → EReal) (ix3 0 r k))
        (fun k => (iblk m c 8 t : S1x512.Idx → EReal) (ix2 0 k)) (fun k j => (iblk m c 9 t : S1024x1024.Idx → EReal) (ix2 k j))
        (fun k => (iblk m c 0 t : S1x512x1024.Idx → EReal) (ix3 0 r k)) (fun k => (iblk m c 10 t : S1x1024.Idx → EReal) (ix2 0 k))
        (fun k => (iblk m c 13 t : S1x1024.Idx → EReal) (ix2 0 k)) (fun p u => (iblk m c 11 t : S1024x4096.Idx → EReal) (ix2 p u))
        (fun u j => (iblk m c 12 t : S4096x1024.Idx → EReal) (ix2 u j)) j
      = G m c (ix3 (gb t) (gp t r) j) := by
  unfold G
  rw [ref_row]
  have e : mixRow (iblk m c 2 t) (iblk m c 3 t) (iblk m c 4 t) (iblk m c 5 t) (iblk m c 6 t) (iblk m c 7 t) r = _ :=
    funext fun k => (mix_at m c t r k).trans (mix_eq _ _ _ _ _ _ (hfin (gb t) (hd k) (gp t r)).1 (hfin (gb t) (hd k) (gp t r)).2)
  rw [e, funext (w1_at m c t r), funext (w8_at m c t), funext fun k => funext (w9_at m c t k), funext (w0_at m c t r), funext (w10_at m c t), funext (w13_at m c t),
    funext fun k => funext (w11_at m c t k), funext fun k => funext (w12_at m c t k)]
  rfl

theorem flushed_eq (hfin : Finite m c) (t : Fin cfg0.N) :
    (dats m 0 c).flushed 14 t = ((cfg0.win 14).blk t).view.read (Elt Ideal) (G m c) := by
  rw [flushed14_A]
  funext j
  obtain ⟨r, k, rfl⟩ : ∃ (r : Fin 512) (k : Fin 1024), j = (ix3 0 r k : S1x512x1024.Idx) := ⟨j 1, j 2, funext fun a => by
    match a with
    | ⟨0, _⟩ => exact Subsingleton.elim (α := Fin 1) _ _
    | ⟨1, _⟩ => rfl
    | ⟨2, _⟩ => rfl⟩
  show _ = G m c (((cfg0.win 14).blk t).view.emb (ix3 0 r k))
  rw [emb14, ← row_at m c hfin t r k]
  exact out_block ..

theorem mem14 (t : Fin cfg0.N) (r : Fin 512) (k : Fin 1024) : (ix3 (gb t) (gp t r) k : S2x8192x1024.Idx) ∈ ((cfg0.win 14).blk t).view.set := by
  have h := ((cfg0.win 14).blk t).view.emb_mem_set (ix3 0 r k : S1x512x1024.Idx)
  exact (emb14 t r k) ▸ h

theorem covered (i : S2x8192x1024.Idx) : ∃ t : Fin cfg0.N, (cfg0.win 14).flush t = true ∧ i ∈ ((cfg0.win 14).blk t).view.set := by
  have h0 : (i 0).val < 2 := (i 0).isLt
  have h1 : (i 1).val < 8192 := (i 1).isLt
  have ht : (i 0).val * 16 + (i 1).val / 512 < 32 := by omega
  have e : i = ix3 (gb ⟨(i 0).val * 16 + (i 1).val / 512, ht⟩) (gp ⟨(i 0).val * 16 + (i 1).val / 512, ht⟩ ⟨(i 1).val % 512, by omega⟩) (i 2) := by
    funext a; apply Fin.ext
    match a with
    | ⟨0, _⟩ => show (i 0).val = ((i 0).val * 16 + (i 1).val / 512) / 16; omega
    | ⟨1, _⟩ => show (i 1).val = ((i 0).val * 16 + (i 1).val / 512) % 16 * 512 + (i 1).val % 512; omega
    | ⟨2, _⟩ => rfl
  refine ⟨⟨(i 0).val * 16 + (i 1).val / 512, ht⟩, flush0_14 _, ?_⟩
  exact Set.mem_of_eq_of_mem (s := {y : S2x8192x1024.Idx | y ∈ ((cfg0.win 14).blk ⟨(i 0).val * 16 + (i 1).val / 512, ht⟩).view.set}) e
    (mem14 ⟨(i 0).val * 16 + (i 1).val / 512, ht⟩ ⟨(i 1).val % 512, by omega⟩ (i 2))

/-- The result array after the run. -/
theorem final (hfin : Finite m c) : (dats m 0 c).arrAt 14 cfg0.N = G m c :=
  (dats m 0 c).arrAt_eq_of_cover 14 (G m c) (fun t _ => flushed_eq m c hfin t) covered

end Cert.Mlp

end
-- ==== Proof.Mlp.Pre.lean ====
/- What the closing stage's precondition says of the three logarithmic weights. -/
module

public import proofs.«01_k».proof.Pre_a_greatest_lse
public import proofs.«01_k».proof.Proof.Mlp.Soft

@[expose] public section

noncomputable section

namespace Cert.Mlp

open Cert.Pre_a_greatest_lse
open Idealize.ShloMosaic

/-- The one broadcast the precondition takes. -/
theorem preFacts : Cert.Pre_a_greatest_lse.Facts := ⟨by decide⟩

theorem pre_read (x0 : FVec Ideal S2x8192x1024 .f32) (x1 : FVec Ideal S2x8192x512 .f32) (x2 x3 x4 : FVec Ideal S2x8192x8x64 .f32) (x5 x6 x7 : FVec Ideal S2x8x8192 .f32)
    (x8 : FVec Ideal S512 .f32) (x9 : FVec Ideal S1024x1024 .f32) (x10 : FVec Ideal S1024 .f32) (x11 : FVec Ideal S1024x4096 .f32) (x12 : FVec Ideal S4096x1024 .f32) (x13 : FVec Ideal S1024 .f32)
    (h : @fn preFacts Ideal _ x0 x1 x2 x3 x4 x5 x6 x7 x8 x9 x10 x11 x12 x13 = fun _ => 1#1) (b : Fin 2) (g : Fin 8) (p : Fin 8192) :
    top3 (x5 (ix3 b g p)) (x6 (ix3 b g p)) (x7 (ix3 b g p)) ≠ ⊥ ∧ top3 (x5 (ix3 b g p)) (x6 (ix3 b g p)) (x7 (ix3 b g p)) ≠ ⊤ := by
  have e := congrFun h (ix3 b g p)
  pointwise [fn] at e
  rw [ofBits_bot, ofBits_top] at e
  change IntOp.andi (BitVec.ofBool (decide (⊥ < top3 (x5 (ix3 b g p)) (x6 (ix3 b g p)) (x7 (ix3 b g p)))))
    (BitVec.ofBool (decide (top3 (x5 (ix3 b g p)) (x6 (ix3 b g p)) (x7 (ix3 b g p)) < ⊤))) = 1#1 at e
  generalize top3 (x5 (ix3 b g p)) (x6 (ix3 b g p)) (x7 (ix3 b g p)) = T at e ⊢
  constructor
  · rintro rfl
    simp [IntOp.andi] at e
  · rintro rfl
    simp [IntOp.andi] at e

end Cert.Mlp

end
-- ==== Proof.Mlp.Claim.lean ====
/- The closing stage's value claim, and the quiescence of its two programs. -/
module

public import proofs.«01_k».proof.Defs
public import proofs.«01_k».proof.Proof.Mlp.Value
public import proofs.«01_k».proof.Proof.Mlp.Pre

@[expose] public section

noncomputable section

namespace Cert.Mlp

open Idealize.ShloMosaic Idealize.ShloMosaic.TcCoe Idealize.SL.Sem

instance : Cert.Pre_a_greatest_lse.Facts := preFacts

/-- The precondition makes the greatest weight a number everywhere. -/
theorem finite_of_pre (m : (ℓ : Loc Cert.Kernel2Ideal.nD Cert.Kernel2Ideal.τ Cert.Kernel2Ideal.sig) → Buf (Elt Ideal) ℓ)
    (h : Cert.Pre_Kernel2Ideal_a_greatest_lse m) (c : Dev Cert.Kernel2Ideal.nD) : Finite m c :=
  fun b g p => pre_read _ _ _ _ _ _ _ _ _ _ _ _ _ _ (h c) b g p

/-- The closing stage and its reference leave equal results where the greatest weight is a number. -/
theorem algebraic : Cert.algebraic_Kernel2Ideal_Reference2Ideal_pre_a_greatest_lse (hKernel2Ideal := Cert.Kernel2Ideal.Gen.facts)
    (hReference2Ideal := Cert.Reference2Ideal.Gen.facts) (hPre_a_greatest_lse := preFacts) := by
  intro m g m' g' hp hargs
  refine ⟨fun c => G m c, ?_, ?_⟩
  · exact (θ_run Cert.Kernel2Ideal.defs _ _).mono (fun r h c => ⟨(h c).1.trans (final m c (finite_of_pre m hp c)), (h c).2⟩) (Cert.Kernel2Ideal.Value.run_blocks m g)
  · refine (θ_run Cert.Reference2Ideal.defs _ _).mono (fun r h c => ⟨(h c).1.trans ?_, (h c).2⟩) (Cert.Reference2Ideal.Value.run m' g')
    rw [Cert.Reference2Ideal.Read.val_main_v71_eq]
    obtain ⟨a0, a1, a2, a3, a4, a5, a6, a7, a8, a9, a10, a11, a12, a13⟩ := hargs c
    show _ = G m c
    unfold G
    rw [← a0, ← a1, ← a2, ← a3, ← a4, ← a5, ← a6, ← a7, ← a8, ← a9, ← a10, ← a11, ← a12, ← a13]

end Cert.Mlp

end
-- ==== Proof.lean ====
module

public import proofs.«01_k».proof.Defs
public import proofs.«01_k».proof.Proof.Gen.Kernel
public import proofs.«01_k».proof.Proof.Gen.Kernel2
public import proofs.«01_k».proof.Proof.Gen.Kernel3
public import proofs.«01_k».proof.Proof.Inp.Bits
public import proofs.«01_k».proof.Proof.Inp.Claim
public import proofs.«01_k».proof.Proof.Gen.Reference3Ideal.Read
public import proofs.«01_k».proof.Proof.Gen.Kernel2.Frame
public import proofs.«01_k».proof.Proof.Att.Frame
public import proofs.«01_k».proof.Proof.Gen.Kernel2Ideal.Frame
public import proofs.«01_k».proof.Proof.Mlp.Claim

@[expose] public section

noncomputable section

namespace Cert.Proof

open Idealize.ShloMosaic Idealize.SL.Sem

section Attention
attribute [local instance] Cert.Kernel.Gen.facts Cert.KernelIdeal.Gen.facts

variable {F : FTy → Type} [FloatOps F]

/-- The attention call and its ideal have one body. -/
theorem body_eq : (Cert.Kernel.defs₀ (F := F)) = Cert.KernelIdeal.defs₀ (F := F) := by
  unfold Cert.Kernel.defs₀ Cert.KernelIdeal.defs₀
  refine congrArg Defs.onTc (funext fun l => funext fun _ => ?_)
  match l with
  | ⟨0, _⟩ => rfl

theorem defs_eq : (Cert.Kernel.defs (F := F)) = Cert.KernelIdeal.defs (F := F) :=
  congrArg (Pipeline.defs (Cert.KernelIdeal.pcfgs (F := F))) body_eq

theorem main_eq : (Cert.Kernel.main (F := F)) = Cert.KernelIdeal.main (F := F) := rfl

/-- The attention call terminates, faults nowhere and leaves its arguments and counters as the frame says: the run
    of its ideal, read over the machine's own values. -/
theorem frame_attention : Cert.quiescent_Kernel (hKernel := Cert.Kernel.Gen.facts) := by
  intro m ρ _
  rw [defs_eq, main_eq]
  refine (θ_run Cert.KernelIdeal.defs (onTc (τ := Cert.KernelIdeal.τ) (Cert.KernelIdeal.main (F := Bits)))
    ⟨m, fun _ => 0, ρ⟩).mono ?_ (Cert.KernelIdeal.Att.frame (F := Bits) m ρ)
  rintro ⟨_, _⟩ ⟨h, hs⟩
  exact ⟨fun c => ⟨(h c).1, (h c).2.1, (h c).2.2.1, (h c).2.2.2⟩, hs⟩

end Attention

theorem frame_attention_ideal : Cert.quiescent_KernelIdeal (hKernelIdeal := Cert.KernelIdeal.Gen.facts) := fun m ρ _ =>
  Cert.KernelIdeal.Att.frame m ρ

/-- The closing stage likewise. -/
theorem frame_closing : Cert.quiescent_Kernel2 (hKernel2 := Cert.Kernel2.Gen.facts) := fun m ρ _ =>
  Cert.Kernel2.Gen.frame m ρ

theorem frame_closing_ideal : Cert.quiescent_Kernel2Ideal (hKernel2Ideal := Cert.Kernel2Ideal.Gen.facts) := fun m ρ _ =>
  Cert.Kernel2Ideal.Gen.frame m ρ

theorem frame_closing_pre : Cert.quiescent_Kernel2Ideal_pre_a_greatest_lse (hKernel2Ideal := Cert.Kernel2Ideal.Gen.facts)
    (hPre_a_greatest_lse := Cert.Mlp.preFacts) := fun m ρ _ =>
  Cert.Kernel2Ideal.Gen.frame m ρ

/-- The closing stage's reference declares no semaphore. -/
theorem frame_reference : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩) (Cert.Reference2Ideal.Value.run m ρ)

theorem frame_reference_pre : Cert.quiescent_Reference2Ideal_pre_a_greatest_lse (hReference2Ideal := Cert.Reference2Ideal.Gen.facts)
    (hPre_a_greatest_lse := Cert.Mlp.preFacts) := fun m ρ _ => frame_reference m ρ trivial

theorem frame_projection_ideal : Cert.quiescent_Kernel3Ideal (hKernel3Ideal := Cert.Kernel3Ideal.Gen.facts) := fun m ρ _ =>
  Cert.Kernel3Ideal.Inp.frame m ρ

theorem frame_projection_reference : Cert.quiescent_Reference3Ideal (hReference3Ideal := Cert.Reference3Ideal.Gen.facts) := fun m ρ _ =>
  (θ_run Cert.Reference3Ideal.defs _ _).mono (fun r h => ⟨fun c => (h c).2.2, sem_eq_zero_of_no_sems (by decide) r.2⟩) (Cert.Reference3Ideal.Value.run m ρ)

theorem claim : Cert.Claim :=
  ⟨Cert.Kernel.Gen.facts, Cert.KernelIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts, Cert.Mlp.preFacts,
    frame_attention, frame_attention_ideal, frame_closing, frame_closing_ideal, frame_closing_pre, frame_reference, frame_reference_pre,
    Cert.Kernel3Ideal.Inp.frame_projection, frame_projection_ideal, frame_projection_reference, trivial, trivial, Cert.Mlp.algebraic, trivial, Cert.Kernel3Ideal.Inp.algebraic⟩

end Cert.Proof

end
